-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_v182) = v1 c
          ∧ r.2.mem ((c.tc : Thread Cert.ReferenceIdeal.nD Cert.ReferenceIdeal.τ).loc Cert.ReferenceIdeal.main_v191) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x2048x252x3 : Shape := ⟨4, ![8, 2048, 252, 3]⟩
abbrev S756x32 : Shape := ⟨2, ![756, 32]⟩
abbrev S32x756 : Shape := ⟨2, ![32, 756]⟩
abbrev S8x1024x32 : Shape := ⟨3, ![8, 1024, 32]⟩
abbrev S_ : Shape := ⟨0, ![]⟩

class Facts : Prop where
  bcast_S_S8x2048x252x3 : S_.BroadcastsInDim S8x2048x252x3 (![] : Fin 0 → Fin S8x2048x252x3.rank)
  reducesTo_S8x2048x252x3_S_d0_1_2_3 : S8x2048x252x3.ReducesTo [0, 1, 2, 3] S_
  h_S_ : 0 < S_.numel
  bcast_S_S756x32 : S_.BroadcastsInDim S756x32 (![] : Fin 0 → Fin S756x32.rank)
  reducesTo_S756x32_S_d0_1 : S756x32.ReducesTo [0, 1] S_
  bcast_S_S8x1024x32 : S_.BroadcastsInDim S8x1024x32 (![] : Fin 0 → Fin S8x1024x32.rank)
  reducesTo_S8x1024x32_S_d0_1_2 : S8x1024x32.ReducesTo [0, 1, 2] S_

variable [Facts]

def fn {F : FTy → Type} [FloatOps F] (main_arg0 : FVec F S8x2048x252x3 .f32) (main_arg1 : FVec F S756x32 .f32) (main_arg2 : FVec F S32x756 .f32) (main_arg3 : FVec F S8x1024x32 .f32) : IVec S_ 1 :=
  let main_v0 : FVec F S8x2048x252x3 .f32 := Host.absf main_arg0
  let main_cst : FVec F S_ .f32 := constant S_ .f32 0x7F800000#32
  let main_v1 : FVec F S8x2048x252x3 .f32 := broadcastInDim S8x2048x252x3 ![] bcast_S_S8x2048x252x3 main_cst
  let main_v2 : IVec S8x2048x252x3 1 := cmpf .olt main_v0 main_v1
  let main_c : IVec S_ 1 := constantI S_ 1 1#1
  let main_v3 : IVec S_ 1 := (fun x v => Host.reduce IntOp.andi x v reducesTo_S8x2048x252x3_S_d0_1_2_3 h_S_) main_v2 main_c
  let main_v4 : FVec F S756x32 .f32 := Host.absf main_arg1
  let main_cst_0 : FVec F S_ .f32 := constant S_ .f32 0x7F800000#32
  let main_v5 : FVec F S756x32 .f32 := broadcastInDim S756x32 ![] bcast_S_S756x32 main_cst_0
  let main_v6 : IVec S756x32 1 := cmpf .olt main_v4 main_v5
  let main_c_1 : IVec S_ 1 := constantI S_ 1 1#1
  let main_v7 : IVec S_ 1 := (fun x v => Host.reduce IntOp.andi x v reducesTo_S756x32_S_d0_1 h_S_) main_v6 main_c_1
  let main_v8 : IVec S_ 1 := andi main_v3 main_v7
  let main_v9 : FVec F S8x1024x32 .f32 := Host.absf main_arg3
  let main_cst_2 : FVec F S_ .f32 := constant S_ .f32 0x7F800000#32
  let main_v10 : FVec F S8x1024x32 .f32 := broadcastInDim S8x1024x32 ![] bcast_S_S8x1024x32 main_cst_2
  let main_v11 : IVec S8x1024x32 1 := cmpf .olt main_v9 main_v10
  let main_c_3 : IVec S_ 1 := constantI S_ 1 1#1
  let main_v12 : IVec S_ 1 := (fun x v => Host.reduce IntOp.andi x v reducesTo_S8x1024x32_S_d0_1_2 h_S_) main_v11 main_c_3
  let main_v13 : IVec S_ 1 := andi main_v8 main_v12
  main_v13
-- ==== Kernel.lean ====
abbrev S8x2048x252x3 : Shape := ⟨4, ![8, 2048, 252, 3]⟩
abbrev S756x32 : Shape := ⟨2, ![756, 32]⟩
abbrev S32x756 : Shape := ⟨2, ![32, 756]⟩
abbrev S8x1024x32 : Shape := ⟨3, ![8, 1024, 32]⟩
abbrev S8x2048x3x252 : Shape := ⟨4, ![8, 2048, 3, 252]⟩
abbrev S8x2048x756 : Shape := ⟨3, ![8, 2048, 756]⟩
abbrev S8x2048x32 : Shape := ⟨3, ![8, 2048, 32]⟩
abbrev S16384x32 : Shape := ⟨2, ![16384, 32]⟩
abbrev S8x32x1024 : Shape := ⟨3, ![8, 32, 1024]⟩
abbrev S_ : Shape := ⟨0, ![]⟩
abbrev S8x1024 : Shape := ⟨2, ![8, 1024]⟩
abbrev S8x1x1024 : Shape := ⟨3, ![8, 1, 1024]⟩
abbrev S16384x756 : Shape := ⟨2, ![16384, 756]⟩
abbrev S8x16384x32 : Shape := ⟨3, ![8, 16384, 32]⟩
abbrev S16384x8 : Shape := ⟨2, ![16384, 8]⟩
abbrev S1024x32 : Shape := ⟨2, ![1024, 32]⟩
abbrev S1024x756 : Shape := ⟨2, ![1024, 756]⟩
abbrev S1024x8 : Shape := ⟨2, ![1024, 8]⟩
abbrev S8x1024x99 : Shape := ⟨3, ![8, 1024, 99]⟩
abbrev S1024x1 : Shape := ⟨2, ![1024, 1]⟩
abbrev S1x1024x32 : Shape := ⟨3, ![1, 1024, 32]⟩
abbrev S1024x99 : Shape := ⟨2, ![1024, 99]⟩
abbrev S1x1024x99 : Shape := ⟨3, ![1, 1024, 99]⟩
abbrev S1x32x1024 : Shape := ⟨3, ![1, 32, 1024]⟩
abbrev S32x1024 : Shape := ⟨2, ![32, 1024]⟩
abbrev S1x1x1024 : Shape := ⟨3, ![1, 1, 1024]⟩
abbrev S1x1024 : Shape := ⟨2, ![1, 1024]⟩
abbrev S1024 : Shape := ⟨1, ![1024]⟩
abbrev S1024x1024 : Shape := ⟨2, ![1024, 1024]⟩
abbrev S1x1024x1 : Shape := ⟨3, ![1, 1024, 1]⟩
abbrev S1 : Shape := ⟨1, ![1]⟩
abbrev S1x1x1 : Shape := ⟨3, ![1, 1, 1]⟩
abbrev S8x8x2048x32 : Shape := ⟨4, ![8, 8, 2048, 32]⟩
abbrev S8x2048x8 : Shape := ⟨3, ![8, 2048, 8]⟩

abbrev nBuf : Space → Nat
  | .hbm => 19
  | .vmem => 15
  | .smem => 0
  | _ => 0

abbrev bufTy : (tb : Table) → Fin (tcTables nBuf tb) → BufTy
  | .hbm, ⟨0, _⟩ => ⟨S8x2048x252x3, .f32⟩
  | .hbm, ⟨1, _⟩ => ⟨S756x32, .f32⟩
  | .hbm, ⟨2, _⟩ => ⟨S32x756, .f32⟩
  | .hbm, ⟨3, _⟩ => ⟨S8x1024x32, .f32⟩
  | .hbm, ⟨4, _⟩ => ⟨S8x2048x3x252, .f32⟩
  | .hbm, ⟨5, _⟩ => ⟨S8x2048x756, .f32⟩
  | .hbm, ⟨6, _⟩ => ⟨S8x2048x32, .f32⟩
  | .hbm, ⟨7, _⟩ => ⟨S16384x32, .f32⟩
  | .hbm, ⟨8, _⟩ => ⟨S8x32x1024, .f32⟩
  | .hbm, ⟨9, _⟩ => ⟨S8x1024x32, .f32⟩
  | .hbm, ⟨10, _⟩ => ⟨S_, .f32⟩
  | .hbm, ⟨11, _⟩ => ⟨S8x1024, .f32⟩
  | .hbm, ⟨12, _⟩ => ⟨S8x1x1024, .f32⟩
  | .hbm, ⟨13, _⟩ => ⟨S16384x756, .f32⟩
  | .hbm, ⟨14, _⟩ => ⟨S8x16384x32, .f32⟩
  | .hbm, ⟨15, _⟩ => ⟨S16384x8, .i32⟩
  | .hbm, ⟨16, _⟩ => ⟨S8x2048x756, .f32⟩
  | .hbm, ⟨17, _⟩ => ⟨S8x8x2048x32, .f32⟩
  | .hbm, ⟨18, _⟩ => ⟨S8x2048x8, .i32⟩
  | .local _ .vmem, ⟨0, _⟩ => ⟨S1024x32, .f32⟩
  | .local _ .vmem, ⟨1, _⟩ => ⟨S1024x32, .f32⟩
  | .local _ .vmem, ⟨2, _⟩ => ⟨S32x756, .f32⟩
  | .local _ .vmem, ⟨3, _⟩ => ⟨S8x32x1024, .f32⟩
  | .local _ .vmem, ⟨4, _⟩ => ⟨S8x1024x32, .f32⟩
  | .local _ .vmem, ⟨5, _⟩ => ⟨S8x1x1024, .f32⟩
  | .local _ .vmem, ⟨6, _⟩ => ⟨S1024x756, .f32⟩
  | .local _ .vmem, ⟨7, _⟩ => ⟨S1024x756, .f32⟩
  | .local _ .vmem, ⟨8, _⟩ => ⟨S8x1024x32, .f32⟩
  | .local _ .vmem, ⟨9, _⟩ => ⟨S8x1024x32, .f32⟩
  | .local _ .vmem, ⟨10, _⟩ => ⟨S1024x8, .i32⟩
  | .local _ .vmem, ⟨11, _⟩ => ⟨S1024x8, .i32⟩
  | .local _ .vmem, ⟨12, _⟩ => ⟨S8x1024x99, .bf16⟩
  | .local _ .vmem, ⟨13, _⟩ => ⟨S1024x32, .f32⟩
  | .local _ .vmem, ⟨14, _⟩ => ⟨S1024x1, .i32⟩
  | _, _ => ⟨S8x2048x252x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x756 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x756 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x8 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8x2048x252x3 : Shape := ⟨4, ![8, 2048, 252, 3]⟩
abbrev S756x32 : Shape := ⟨2, ![756, 32]⟩
abbrev S32x756 : Shape := ⟨2, ![32, 756]⟩
abbrev S8x1024x32 : Shape := ⟨3, ![8, 1024, 32]⟩
abbrev S8x2048x3x252 : Shape := ⟨4, ![8, 2048, 3, 252]⟩
abbrev S8x2048x756 : Shape := ⟨3, ![8, 2048, 756]⟩
abbrev S8x2048x32 : Shape := ⟨3, ![8, 2048, 32]⟩
abbrev S_ : Shape := ⟨0, ![]⟩
abbrev S1x1024x32 : Shape := ⟨3, ![1, 1024, 32]⟩
abbrev S1024x32 : Shape := ⟨2, ![1024, 32]⟩
abbrev S8x2048 : Shape := ⟨2, ![8, 2048]⟩
abbrev S8x2048x1 : Shape := ⟨3, ![8, 2048, 1]⟩
abbrev S8x2048x1024 : Shape := ⟨3, ![8, 2048, 1024]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩
abbrev S1x8x2048x32 : Shape := ⟨4, ![1, 8, 2048, 32]⟩
abbrev S8x8x2048x32 : Shape := ⟨4, ![8, 8, 2048, 32]⟩
abbrev S8x2048x8 : Shape := ⟨3, ![8, 2048, 8]⟩

abbrev nBuf : Space → Nat
  | .hbm => 431
  | .vmem => 0
  | .smem => 0
  | _ => 0

abbrev hbmTy0_0 (i : Nat) : BufTy := match i % 128 with
  | 0 => ⟨S8x2048x252x3, .f32⟩
  | 1 => ⟨S756x32, .f32⟩
  | 2 => ⟨S32x756, .f32⟩
  | 3 => ⟨S8x1024x32, .f32⟩
  | 4 => ⟨S8x2048x3x252, .f32⟩
  | 5 => ⟨S8x2048x756, .f32⟩
  | 6 => ⟨S8x2048x32, .f32⟩
  | 7 => ⟨S_, .f32⟩
  | 8 => ⟨S8x2048x32, .f32⟩
  | 9 => ⟨S1x1024x32, .f32⟩
  | 10 => ⟨S1024x32, .f32⟩
  | 11 => ⟨S8x2048x32, .f32⟩
  | 12 => ⟨S_, .f32⟩
  | 13 => ⟨S8x2048, .f32⟩
  | 14 => ⟨S8x2048x1, .f32⟩
  | 15 => ⟨S8x2048x1024, .f32⟩
  | 16 => ⟨S_, .f32⟩
  | 17 => ⟨S8x2048x1024, .f32⟩
  | 18 => ⟨S8x2048x1024, .f32⟩
  | 19 => ⟨S8x2048x1024, .f32⟩
  | 20 => ⟨S8x2048x1024, .f32⟩
  | 21 => ⟨S1024x32, .f32⟩
  | 22 => ⟨S_, .f32⟩
  | 23 => ⟨S1024, .f32⟩
  | 24 => ⟨S1x1x1024, .f32⟩
  | 25 => ⟨S8x2048x1024, .f32⟩
  | 26 => ⟨S8x2048x1024, .f32⟩
  | 27 => ⟨S8x2048x1024, .i32⟩
  | 28 => ⟨S_, .f32⟩
  | 29 => ⟨S_, .i32⟩
  | 30 => ⟨S8x2048, .f32⟩
  | 31 => ⟨S8x2048, .i32⟩
  | 32 => ⟨S_, .i32⟩
  | 33 => ⟨S8x2048, .i32⟩
  | 34 => ⟨S8x2048, .i1⟩
  | 35 => ⟨S_, .i32⟩
  | 36 => ⟨S8x2048, .i32⟩
  | 37 => ⟨S8x2048, .i32⟩
  | 38 => ⟨S8x2048, .i32⟩
  | 39 => ⟨S8x2048x1, .i32⟩
  | 40 => ⟨S1, .i32⟩
  | 41 => ⟨S_, .i32⟩
  | 42 => ⟨S8x2048x1, .i32⟩
  | 43 => ⟨S8x2048x1, .i1⟩
  | 44 => ⟨S1x1x1, .i32⟩
  | 45 => ⟨S8x2048x1, .i32⟩
  | 46 => ⟨S8x2048x1, .i1⟩
  | 47 => ⟨S8x2048x1, .i1⟩
  | 48 => ⟨S_, .i1⟩
  | 49 => ⟨S8x2048, .i1⟩
  | 50 => ⟨S8x2048x32, .f32⟩
  | 51 => ⟨S8x2048x32, .i1⟩
  | 52 => ⟨S_, .f32⟩
  | 53 => ⟨S8x2048x32, .f32⟩
  | 54 => ⟨S8x2048x32, .f32⟩
  | 55 => ⟨S8x2048x32, .f32⟩
  | 56 => ⟨S8x2048x32, .f32⟩
  | 57 => ⟨S8x2048x32, .f32⟩
  | 58 => ⟨S8x2048x32, .f32⟩
  | 59 => ⟨S1x1024x32, .f32⟩
  | 60 => ⟨S1024x32, .f32⟩
  | 61 => ⟨S8x2048x32, .f32⟩
  | 62 => ⟨S_, .f32⟩
  | 63 => ⟨S8x2048, .f32⟩
  | 64 => ⟨S8x2048x1, .f32⟩
  | 65 => ⟨S8x2048x1024, .f32⟩
  | 66 => ⟨S_, .f32⟩
  | 67 => ⟨S8x2048x1024, .f32⟩
  | 68 => ⟨S8x2048x1024, .f32⟩
  | 69 => ⟨S8x2048x1024, .f32⟩
  | 70 => ⟨S8x2048x1024, .f32⟩
  | 71 => ⟨S1024x32, .f32⟩
  | 72 => ⟨S_, .f32⟩
  | 73 => ⟨S1024, .f32⟩
  | 74 => ⟨S1x1x1024, .f32⟩
  | 75 => ⟨S8x2048x1024, .f32⟩
  | 76 => ⟨S8x2048x1024, .f32⟩
  | 77 => ⟨S8x2048x1024, .i32⟩
  | 78 => ⟨S_, .f32⟩
  | 79 => ⟨S_, .i32⟩
  | 80 => ⟨S8x2048, .f32⟩
  | 81 => ⟨S8x2048, .i32⟩
  | 82 => ⟨S_, .i32⟩
  | 83 => ⟨S8x2048, .i32⟩
  | 84 => ⟨S8x2048, .i1⟩
  | 85 => ⟨S_, .i32⟩
  | 86 => ⟨S8x2048, .i32⟩
  | 87 => ⟨S8x2048, .i32⟩
  | 88 => ⟨S8x2048, .i32⟩
  | 89 => ⟨S8x2048x1, .i32⟩
  | 90 => ⟨S1, .i32⟩
  | 91 => ⟨S_, .i32⟩
  | 92 => ⟨S8x2048x1, .i32⟩
  | 93 => ⟨S8x2048x1, .i1⟩
  | 94 => ⟨S1x1x1, .i32⟩
  | 95 => ⟨S8x2048x1, .i32⟩
  | 96 => ⟨S8x2048x1, .i1⟩
  | 97 => ⟨S8x2048x1, .i1⟩
  | 98 => ⟨S_, .i1⟩
  | 99 => ⟨S8x2048, .i1⟩
  | 100 => ⟨S8x2048x32, .f32⟩
  | 101 => ⟨S8x2048x32, .i1⟩
  | 102 => ⟨S_, .f32⟩
  | 103 => ⟨S8x2048x32, .f32⟩
  | 104 => ⟨S8x2048x32, .f32⟩
  | 105 => ⟨S8x2048x32, .f32⟩
  | 106 => ⟨S8x2048x32, .f32⟩
  | 107 => ⟨S8x2048x32, .f32⟩
  | 108 => ⟨S8x2048x32, .f32⟩
  | 109 => ⟨S1x1024x32, .f32⟩
  | 110 => ⟨S1024x32, .f32⟩
  | 111 => ⟨S8x2048x32, .f32⟩
  | 112 => ⟨S_, .f32⟩
  | 113 => ⟨S8x2048, .f32⟩
  | 114 => ⟨S8x2048x1, .f32⟩
  | 115 => ⟨S8x2048x1024, .f32⟩
  | 116 => ⟨S_, .f32⟩
  | 117 => ⟨S8x2048x1024, .f32⟩
  | 118 => ⟨S8x2048x1024, .f32⟩
  | 119 => ⟨S8x2048x1024, .f32⟩
  | 120 => ⟨S8x2048x1024, .f32⟩
  | 121 => ⟨S1024x32, .f32⟩
  | 122 => ⟨S_, .f32⟩
  | 123 => ⟨S1024, .f32⟩
  | 124 => ⟨S1x1x1024, .f32⟩
  | 125 => ⟨S8x2048x1024, .f32⟩
  | 126 => ⟨S8x2048x1024, .f32⟩
  | 127 => ⟨S8x2048x1024, .i32⟩
  | _ => ⟨S8x2048x252x3, .f32⟩

abbrev hbmTy0_1 (i : Nat) : BufTy := match i % 128 with
  | 0 => ⟨S_, .f32⟩
  | 1 => ⟨S_, .i32⟩
  | 2 => ⟨S8x2048, .f32⟩
  | 3 => ⟨S8x2048, .i32⟩
  | 4 => ⟨S_, .i32⟩
  | 5 => ⟨S8x2048, .i32⟩
  | 6 => ⟨S8x2048, .i1⟩
  | 7 => ⟨S_, .i32⟩
  | 8 => ⟨S8x2048, .i32⟩
  | 9 => ⟨S8x2048, .i32⟩
  | 10 => ⟨S8x2048, .i32⟩
  | 11 => ⟨S8x2048x1, .i32⟩
  | 12 => ⟨S1, .i32⟩
  | 13 => ⟨S_, .i32⟩
  | 14 => ⟨S8x2048x1, .i32⟩
  | 15 => ⟨S8x2048x1, .i1⟩
  | 16 => ⟨S1x1x1, .i32⟩
  | 17 => ⟨S8x2048x1, .i32⟩
  | 18 => ⟨S8x2048x1, .i1⟩
  | 19 => ⟨S8x2048x1, .i1⟩
  | 20 => ⟨S_, .i1⟩
  | 21 => ⟨S8x2048, .i1⟩
  | 22 => ⟨S8x2048x32, .f32⟩
  | 23 => ⟨S8x2048x32, .i1⟩
  | 24 => ⟨S_, .f32⟩
  | 25 => ⟨S8x2048x32, .f32⟩
  | 26 => ⟨S8x2048x32, .f32⟩
  | 27 => ⟨S8x2048x32, .f32⟩
  | 28 => ⟨S8x2048x32, .f32⟩
  | 29 => ⟨S8x2048x32, .f32⟩
  | 30 => ⟨S8x2048x32, .f32⟩
  | 31 => ⟨S1x1024x32, .f32⟩
  | 32 => ⟨S1024x32, .f32⟩
  | 33 => ⟨S8x2048x32, .f32⟩
  | 34 => ⟨S_, .f32⟩
  | 35 => ⟨S8x2048, .f32⟩
  | 36 => ⟨S8x2048x1, .f32⟩
  | 37 => ⟨S8x2048x1024, .f32⟩
  | 38 => ⟨S_, .f32⟩
  | 39 => ⟨S8x2048x1024, .f32⟩
  | 40 => ⟨S8x2048x1024, .f32⟩
  | 41 => ⟨S8x2048x1024, .f32⟩
  | 42 => ⟨S8x2048x1024, .f32⟩
  | 43 => ⟨S1024x32, .f32⟩
  | 44 => ⟨S_, .f32⟩
  | 45 => ⟨S1024, .f32⟩
  | 46 => ⟨S1x1x1024, .f32⟩
  | 47 => ⟨S8x2048x1024, .f32⟩
  | 48 => ⟨S8x2048x1024, .f32⟩
  | 49 => ⟨S8x2048x1024, .i32⟩
  | 50 => ⟨S_, .f32⟩
  | 51 => ⟨S_, .i32⟩
  | 52 => ⟨S8x2048, .f32⟩
  | 53 => ⟨S8x2048, .i32⟩
  | 54 => ⟨S_, .i32⟩
  | 55 => ⟨S8x2048, .i32⟩
  | 56 => ⟨S8x2048, .i1⟩
  | 57 => ⟨S_, .i32⟩
  | 58 => ⟨S8x2048, .i32⟩
  | 59 => ⟨S8x2048, .i32⟩
  | 60 => ⟨S8x2048, .i32⟩
  | 61 => ⟨S8x2048x1, .i32⟩
  | 62 => ⟨S1, .i32⟩
  | 63 => ⟨S_, .i32⟩
  | 64 => ⟨S8x2048x1, .i32⟩
  | 65 => ⟨S8x2048x1, .i1⟩
  | 66 => ⟨S1x1x1, .i32⟩
  | 67 => ⟨S8x2048x1, .i32⟩
  | 68 => ⟨S8x2048x1, .i1⟩
  | 69 => ⟨S8x2048x1, .i1⟩
  | 70 => ⟨S_, .i1⟩
  | 71 => ⟨S8x2048, .i1⟩
  | 72 => ⟨S8x2048x32, .f32⟩
  | 73 => ⟨S8x2048x32, .i1⟩
  | 74 => ⟨S_, .f32⟩
  | 75 => ⟨S8x2048x32, .f32⟩
  | 76 => ⟨S8x2048x32, .f32⟩
  | 77 => ⟨S8x2048x32, .f32⟩
  | 78 => ⟨S8x2048x32, .f32⟩
  | 79 => ⟨S8x2048x32, .f32⟩
  | 80 => ⟨S8x2048x32, .f32⟩
  | 81 => ⟨S1x1024x32, .f32⟩
  | 82 => ⟨S1024x32, .f32⟩
  | 83 => ⟨S8x2048x32, .f32⟩
  | 84 => ⟨S_, .f32⟩
  | 85 => ⟨S8x2048, .f32⟩
  | 86 => ⟨S8x2048x1, .f32⟩
  | 87 => ⟨S8x2048x1024, .f32⟩
  | 88 => ⟨S_, .f32⟩
  | 89 => ⟨S8x2048x1024, .f32⟩
  | 90 => ⟨S8x2048x1024, .f32⟩
  | 91 => ⟨S8x2048x1024, .f32⟩
  | 92 => ⟨S8x2048x1024, .f32⟩
  | 93 => ⟨S1024x32, .f32⟩
  | 94 => ⟨S_, .f32⟩
  | 95 => ⟨S1024, .f32⟩
  | 96 => ⟨S1x1x1024, .f32⟩
  | 97 => ⟨S8x2048x1024, .f32⟩
  | 98 => ⟨S8x2048x1024, .f32⟩
  | 99 => ⟨S8x2048x1024, .i32⟩
  | 100 => ⟨S_, .f32⟩
  | 101 => ⟨S_, .i32⟩
  | 102 => ⟨S8x2048, .f32⟩
  | 103 => ⟨S8x2048, .i32⟩
  | 104 => ⟨S_, .i32⟩
  | 105 => ⟨S8x2048, .i32⟩
  | 106 => ⟨S8x2048, .i1⟩
  | 107 => ⟨S_, .i32⟩
  | 108 => ⟨S8x2048, .i32⟩
  | 109 => ⟨S8x2048, .i32⟩
  | 110 => ⟨S8x2048, .i32⟩
  | 111 => ⟨S8x2048x1, .i32⟩
  | 112 => ⟨S1, .i32⟩
  | 113 => ⟨S_, .i32⟩
  | 114 => ⟨S8x2048x1, .i32⟩
  | 115 => ⟨S8x2048x1, .i1⟩
  | 116 => ⟨S1x1x1, .i32⟩
  | 117 => ⟨S8x2048x1, .i32⟩
  | 118 => ⟨S8x2048x1, .i1⟩
  | 119 => ⟨S8x2048x1, .i1⟩
  | 120 => ⟨S_, .i1⟩
  | 121 => ⟨S8x2048, .i1⟩
  | 122 => ⟨S8x2048x32, .f32⟩
  | 123 => ⟨S8x2048x32, .i1⟩
  | 124 => ⟨S_, .f32⟩
  | 125 => ⟨S8x2048x32, .f32⟩
  | 126 => ⟨S8x2048x32, .f32⟩
  | 127 => ⟨S8x2048x32, .f32⟩
  | _ => ⟨S8x2048x252x3, .f32⟩

abbrev hbmTy0_2 (i : Nat) : BufTy := match i % 128 with
  | 0 => ⟨S8x2048x32, .f32⟩
  | 1 => ⟨S8x2048x32, .f32⟩
  | 2 => ⟨S8x2048x32, .f32⟩
  | 3 => ⟨S1x1024x32, .f32⟩
  | 4 => ⟨S1024x32, .f32⟩
  | 5 => ⟨S8x2048x32, .f32⟩
  | 6 => ⟨S_, .f32⟩
  | 7 => ⟨S8x2048, .f32⟩
  | 8 => ⟨S8x2048x1, .f32⟩
  | 9 => ⟨S8x2048x1024, .f32⟩
  | 10 => ⟨S_, .f32⟩
  | 11 => ⟨S8x2048x1024, .f32⟩
  | 12 => ⟨S8x2048x1024, .f32⟩
  | 13 => ⟨S8x2048x1024, .f32⟩
  | 14 => ⟨S8x2048x1024, .f32⟩
  | 15 => ⟨S1024x32, .f32⟩
  | 16 => ⟨S_, .f32⟩
  | 17 => ⟨S1024, .f32⟩
  | 18 => ⟨S1x1x1024, .f32⟩
  | 19 => ⟨S8x2048x1024, .f32⟩
  | 20 => ⟨S8x2048x1024, .f32⟩
  | 21 => ⟨S8x2048x1024, .i32⟩
  | 22 => ⟨S_, .f32⟩
  | 23 => ⟨S_, .i32⟩
  | 24 => ⟨S8x2048, .f32⟩
  | 25 => ⟨S8x2048, .i32⟩
  | 26 => ⟨S_, .i32⟩
  | 27 => ⟨S8x2048, .i32⟩
  | 28 => ⟨S8x2048, .i1⟩
  | 29 => ⟨S_, .i32⟩
  | 30 => ⟨S8x2048, .i32⟩
  | 31 => ⟨S8x2048, .i32⟩
  | 32 => ⟨S8x2048, .i32⟩
  | 33 => ⟨S8x2048x1, .i32⟩
  | 34 => ⟨S1, .i32⟩
  | 35 => ⟨S_, .i32⟩
  | 36 => ⟨S8x2048x1, .i32⟩
  | 37 => ⟨S8x2048x1, .i1⟩
  | 38 => ⟨S1x1x1, .i32⟩
  | 39 => ⟨S8x2048x1, .i32⟩
  | 40 => ⟨S8x2048x1, .i1⟩
  | 41 => ⟨S8x2048x1, .i1⟩
  | 42 => ⟨S_, .i1⟩
  | 43 => ⟨S8x2048, .i1⟩
  | 44 => ⟨S8x2048x32, .f32⟩
  | 45 => ⟨S8x2048x32, .i1⟩
  | 46 => ⟨S_, .f32⟩
  | 47 => ⟨S8x2048x32, .f32⟩
  | 48 => ⟨S8x2048x32, .f32⟩
  | 49 => ⟨S8x2048x32, .f32⟩
  | 50 => ⟨S8x2048x32, .f32⟩
  | 51 => ⟨S8x2048x32, .f32⟩
  | 52 => ⟨S8x2048x32, .f32⟩
  | 53 => ⟨S1x1024x32, .f32⟩
  | 54 => ⟨S1024x32, .f32⟩
  | 55 => ⟨S8x2048x32, .f32⟩
  | 56 => ⟨S_, .f32⟩
  | 57 => ⟨S8x2048, .f32⟩
  | 58 => ⟨S8x2048x1, .f32⟩
  | 59 => ⟨S8x2048x1024, .f32⟩
  | 60 => ⟨S_, .f32⟩
  | 61 => ⟨S8x2048x1024, .f32⟩
  | 62 => ⟨S8x2048x1024, .f32⟩
  | 63 => ⟨S8x2048x1024, .f32⟩
  | 64 => ⟨S8x2048x1024, .f32⟩
  | 65 => ⟨S1024x32, .f32⟩
  | 66 => ⟨S_, .f32⟩
  | 67 => ⟨S1024, .f32⟩
  | 68 => ⟨S1x1x1024, .f32⟩
  | 69 => ⟨S8x2048x1024, .f32⟩
  | 70 => ⟨S8x2048x1024, .f32⟩
  | 71 => ⟨S8x2048x1024, .i32⟩
  | 72 => ⟨S_, .f32⟩
  | 73 => ⟨S_, .i32⟩
  | 74 => ⟨S8x2048, .f32⟩
  | 75 => ⟨S8x2048, .i32⟩
  | 76 => ⟨S_, .i32⟩
  | 77 => ⟨S8x2048, .i32⟩
  | 78 => ⟨S8x2048, .i1⟩
  | 79 => ⟨S_, .i32⟩
  | 80 => ⟨S8x2048, .i32⟩
  | 81 => ⟨S8x2048, .i32⟩
  | 82 => ⟨S8x2048, .i32⟩
  | 83 => ⟨S8x2048x1, .i32⟩
  | 84 => ⟨S1, .i32⟩
  | 85 => ⟨S_, .i32⟩
  | 86 => ⟨S8x2048x1, .i32⟩
  | 87 => ⟨S8x2048x1, .i1⟩
  | 88 => ⟨S1x1x1, .i32⟩
  | 89 => ⟨S8x2048x1, .i32⟩
  | 90 => ⟨S8x2048x1, .i1⟩
  | 91 => ⟨S8x2048x1, .i1⟩
  | 92 => ⟨S_, .i1⟩
  | 93 => ⟨S8x2048, .i1⟩
  | 94 => ⟨S8x2048x32, .f32⟩
  | 95 => ⟨S8x2048x32, .i1⟩
  | 96 => ⟨S_, .f32⟩
  | 97 => ⟨S8x2048x32, .f32⟩
  | 98 => ⟨S8x2048x32, .f32⟩
  | 99 => ⟨S8x2048x32, .f32⟩
  | 100 => ⟨S8x2048x32, .f32⟩
  | 101 => ⟨S8x2048x32, .f32⟩
  | 102 => ⟨S8x2048x32, .f32⟩
  | 103 => ⟨S1x1024x32, .f32⟩
  | 104 => ⟨S1024x32, .f32⟩
  | 105 => ⟨S8x2048x32, .f32⟩
  | 106 => ⟨S_, .f32⟩
  | 107 => ⟨S8x2048, .f32⟩
  | 108 => ⟨S8x2048x1, .f32⟩
  | 109 => ⟨S8x2048x1024, .f32⟩
  | 110 => ⟨S_, .f32⟩
  | 111 => ⟨S8x2048x1024, .f32⟩
  | 112 => ⟨S8x2048x1024, .f32⟩
  | 113 => ⟨S8x2048x1024, .f32⟩
  | 114 => ⟨S8x2048x1024, .f32⟩
  | 115 => ⟨S1024x32, .f32⟩
  | 116 => ⟨S_, .f32⟩
  | 117 => ⟨S1024, .f32⟩
  | 118 => ⟨S1x1x1024, .f32⟩
  | 119 => ⟨S8x2048x1024, .f32⟩
  | 120 => ⟨S8x2048x1024, .f32⟩
  | 121 => ⟨S8x2048x1024, .i32⟩
  | 122 => ⟨S_, .f32⟩
  | 123 => ⟨S_, .i32⟩
  | 124 => ⟨S8x2048, .f32⟩
  | 125 => ⟨S8x2048, .i32⟩
  | 126 => ⟨S_, .i32⟩
  | 127 => ⟨S8x2048, .i32⟩
  | _ => ⟨S8x2048x252x3, .f32⟩

abbrev hbmTy0_3 (i : Nat) : BufTy := match i % 128 with
  | 0 => ⟨S8x2048, .i1⟩
  | 1 => ⟨S_, .i32⟩
  | 2 => ⟨S8x2048, .i32⟩
  | 3 => ⟨S8x2048, .i32⟩
  | 4 => ⟨S8x2048, .i32⟩
  | 5 => ⟨S8x2048x1, .i32⟩
  | 6 => ⟨S1, .i32⟩
  | 7 => ⟨S_, .i32⟩
  | 8 => ⟨S8x2048x1, .i32⟩
  | 9 => ⟨S8x2048x1, .i1⟩
  | 10 => ⟨S1x1x1, .i32⟩
  | 11 => ⟨S8x2048x1, .i32⟩
  | 12 => ⟨S8x2048x1, .i1⟩
  | 13 => ⟨S8x2048x1, .i1⟩
  | 14 => ⟨S_, .i1⟩
  | 15 => ⟨S8x2048, .i1⟩
  | 16 => ⟨S8x2048x32, .f32⟩
  | 17 => ⟨S8x2048x32, .i1⟩
  | 18 => ⟨S_, .f32⟩
  | 19 => ⟨S8x2048x32, .f32⟩
  | 20 => ⟨S8x2048x32, .f32⟩
  | 21 => ⟨S8x2048x32, .f32⟩
  | 22 => ⟨S8x2048x32, .f32⟩
  | 23 => ⟨S8x2048x32, .f32⟩
  | 24 => ⟨S8x2048x32, .f32⟩
  | 25 => ⟨S8x2048x756, .f32⟩
  | 26 => ⟨S_, .f32⟩
  | 27 => ⟨S8x2048x756, .f32⟩
  | 28 => ⟨S8x2048x756, .f32⟩
  | 29 => ⟨S1x8x2048x32, .f32⟩
  | 30 => ⟨S1x8x2048x32, .f32⟩
  | 31 => ⟨S1x8x2048x32, .f32⟩
  | 32 => ⟨S1x8x2048x32, .f32⟩
  | 33 => ⟨S1x8x2048x32, .f32⟩
  | 34 => ⟨S1x8x2048x32, .f32⟩
  | 35 => ⟨S1x8x2048x32, .f32⟩
  | 36 => ⟨S1x8x2048x32, .f32⟩
  | 37 => ⟨S8x8x2048x32, .f32⟩
  | 38 => ⟨S8x2048x1, .i32⟩
  | 39 => ⟨S8x2048x1, .i32⟩
  | 40 => ⟨S8x2048x1, .i32⟩
  | 41 => ⟨S8x2048x1, .i32⟩
  | 42 => ⟨S8x2048x1, .i32⟩
  | 43 => ⟨S8x2048x1, .i32⟩
  | 44 => ⟨S8x2048x1, .i32⟩
  | 45 => ⟨S8x2048x1, .i32⟩
  | 46 => ⟨S8x2048x8, .i32⟩
  | _ => ⟨S8x2048x252x3, .f32⟩

abbrev hbmTy (i : Nat) : BufTy := match i / 128 with
  | 0 => hbmTy0_0 i
  | 1 => hbmTy0_1 i
  | 2 => hbmTy0_2 i
  | 3 => hbmTy0_3 i
  | _ => ⟨S8x2048x252x3, .f32⟩

abbrev bufTy : (tb : Table) → Fin (tcTables nBuf tb) → BufTy
  | .hbm, ⟨i, _⟩ => hbmTy i
  | _, _ => ⟨S8x2048x252x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_cst : Ref sig .tc := ⟨.hbm, 28, rfl⟩
abbrev main_call0_c : Ref sig .tc := ⟨.hbm, 29, rfl⟩
abbrev main_call0_v1_0 : Ref sig .tc := ⟨.hbm, 30, rfl⟩
abbrev main_v19 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_cst_3 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_4 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_5 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_call2_v0 : Ref sig .tc := ⟨.hbm, 77, rfl⟩
abbrev main_call2_cst : Ref sig .tc := ⟨.hbm, 78, rfl⟩
abbrev main_call2_c : Ref sig .tc := ⟨.hbm, 79, rfl⟩
abbrev main_call2_v1_0 : Ref sig .tc := ⟨.hbm, 80, rfl⟩
abbrev main_v40 : Ref sig .tc := ⟨.hbm, 81, rfl⟩
abbrev main_call3_c : Ref sig .tc := ⟨.hbm, 82, rfl⟩
abbrev main_call3_v0 : Ref sig .tc := ⟨.hbm, 83, rfl⟩
abbrev main_call3_v1 : Ref sig .tc := ⟨.hbm, 84, rfl⟩
abbrev main_call3_c_0 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_c_1 : Ref sig .tc := ⟨.hbm, 90, rfl⟩
abbrev main_call3_c_2 : Ref sig .tc := ⟨.hbm, 91, rfl⟩
abbrev main_call3_v6 : Ref sig .tc := ⟨.hbm, 92, rfl⟩
abbrev main_call3_v7 : Ref sig .tc := ⟨.hbm, 93, rfl⟩
abbrev main_call3_v8 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_c_3 : Ref sig .tc := ⟨.hbm, 98, rfl⟩
abbrev main_call3_v12 : Ref sig .tc := ⟨.hbm, 99, rfl⟩
abbrev main_call3_v13 : Ref sig .tc := ⟨.hbm, 100, rfl⟩
abbrev main_call3_v14 : Ref sig .tc := ⟨.hbm, 101, rfl⟩
abbrev main_call3_cst : Ref sig .tc := ⟨.hbm, 102, rfl⟩
abbrev main_call3_v15 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_cst_6 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_cst_7 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_cst_8 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_v60 : Ref sig .tc := ⟨.hbm, 126, rfl⟩
abbrev main_call4_v0 : Ref sig .tc := ⟨.hbm, 127, rfl⟩
abbrev main_call4_cst : Ref sig .tc := ⟨.hbm, 128, rfl⟩
abbrev main_call4_c : Ref sig .tc := ⟨.hbm, 129, rfl⟩
abbrev main_call4_v1_0 : Ref sig .tc := ⟨.hbm, 130, rfl⟩
abbrev main_v61 : Ref sig .tc := ⟨.hbm, 131, rfl⟩
abbrev main_call5_c : Ref sig .tc := ⟨.hbm, 132, rfl⟩
abbrev main_call5_v0 : Ref sig .tc := ⟨.hbm, 133, rfl⟩
abbrev main_call5_v1 : Ref sig .tc := ⟨.hbm, 134, rfl⟩
abbrev main_call5_c_0 : Ref sig .tc := ⟨.hbm, 135, rfl⟩
abbrev main_call5_v2 : Ref sig .tc := ⟨.hbm, 136, rfl⟩
abbrev main_call5_v3 : Ref sig .tc := ⟨.hbm, 137, rfl⟩
abbrev main_call5_v4 : Ref sig .tc := ⟨.hbm, 138, rfl⟩
abbrev main_call5_v5 : Ref sig .tc := ⟨.hbm, 139, rfl⟩
abbrev main_call5_c_1 : Ref sig .tc := ⟨.hbm, 140, rfl⟩
abbrev main_call5_c_2 : Ref sig .tc := ⟨.hbm, 141, rfl⟩
abbrev main_call5_v6 : Ref sig .tc := ⟨.hbm, 142, rfl⟩
abbrev main_call5_v7 : Ref sig .tc := ⟨.hbm, 143, rfl⟩
abbrev main_call5_v8 : Ref sig .tc := ⟨.hbm, 144, rfl⟩
abbrev main_call5_v9 : Ref sig .tc := ⟨.hbm, 145, rfl⟩
abbrev main_call5_v10 : Ref sig .tc := ⟨.hbm, 146, rfl⟩
abbrev main_call5_v11 : Ref sig .tc := ⟨.hbm, 147, rfl⟩
abbrev main_call5_c_3 : Ref sig .tc := ⟨.hbm, 148, rfl⟩
abbrev main_call5_v12 : Ref sig .tc := ⟨.hbm, 149, rfl⟩
abbrev main_call5_v13 : Ref sig .tc := ⟨.hbm, 150, rfl⟩
abbrev main_call5_v14 : Ref sig .tc := ⟨.hbm, 151, rfl⟩
abbrev main_call5_cst : Ref sig .tc := ⟨.hbm, 152, rfl⟩
abbrev main_call5_v15 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩
abbrev main_v66 : Ref sig .tc := ⟨.hbm, 158, rfl⟩
abbrev main_v67 : Ref sig .tc := ⟨.hbm, 159, rfl⟩
abbrev main_v68 : Ref sig .tc := ⟨.hbm, 160, rfl⟩
abbrev main_v69 : Ref sig .tc := ⟨.hbm, 161, rfl⟩
abbrev main_cst_9 : Ref sig .tc := ⟨.hbm, 162, rfl⟩
abbrev main_v70 : Ref sig .tc := ⟨.hbm, 163, rfl⟩
abbrev main_v71 : Ref sig .tc := ⟨.hbm, 164, rfl⟩
abbrev main_v72 : Ref sig .tc := ⟨.hbm, 165, rfl⟩
abbrev main_cst_10 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩
abbrev main_v76 : Ref sig .tc := ⟨.hbm, 170, rfl⟩
abbrev main_v77 : Ref sig .tc := ⟨.hbm, 171, rfl⟩
abbrev main_cst_11 : Ref sig .tc := ⟨.hbm, 172, rfl⟩
abbrev main_v78 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_call6_v0 : Ref sig .tc := ⟨.hbm, 177, rfl⟩
abbrev main_call6_cst : Ref sig .tc := ⟨.hbm, 178, rfl⟩
abbrev main_call6_c : Ref sig .tc := ⟨.hbm, 179, rfl⟩
abbrev main_call6_v1_0 : Ref sig .tc := ⟨.hbm, 180, rfl⟩
abbrev main_v82 : Ref sig .tc := ⟨.hbm, 181, rfl⟩
abbrev main_call7_c : Ref sig .tc := ⟨.hbm, 182, rfl⟩
abbrev main_call7_v0 : Ref sig .tc := ⟨.hbm, 183, rfl⟩
abbrev main_call7_v1 : Ref sig .tc := ⟨.hbm, 184, rfl⟩
abbrev main_call7_c_0 : Ref sig .tc := ⟨.hbm, 185, rfl⟩
abbrev main_call7_v2 : Ref sig .tc := ⟨.hbm, 186, rfl⟩
abbrev main_call7_v3 : Ref sig .tc := ⟨.hbm, 187, rfl⟩
abbrev main_call7_v4 : Ref sig .tc := ⟨.hbm, 188, rfl⟩
abbrev main_call7_v5 : Ref sig .tc := ⟨.hbm, 189, rfl⟩
abbrev main_call7_c_1 : Ref sig .tc := ⟨.hbm, 190, rfl⟩
abbrev main_call7_c_2 : Ref sig .tc := ⟨.hbm, 191, rfl⟩
abbrev main_call7_v6 : Ref sig .tc := ⟨.hbm, 192, rfl⟩
abbrev main_call7_v7 : Ref sig .tc := ⟨.hbm, 193, rfl⟩
abbrev main_call7_v8 : Ref sig .tc := ⟨.hbm, 194, rfl⟩
abbrev main_call7_v9 : Ref sig .tc := ⟨.hbm, 195, rfl⟩
abbrev main_call7_v10 : Ref sig .tc := ⟨.hbm, 196, rfl⟩
abbrev main_call7_v11 : Ref sig .tc := ⟨.hbm, 197, rfl⟩
abbrev main_call7_c_3 : Ref sig .tc := ⟨.hbm, 198, rfl⟩
abbrev main_call7_v12 : Ref sig .tc := ⟨.hbm, 199, rfl⟩
abbrev main_call7_v13 : Ref sig .tc := ⟨.hbm, 200, rfl⟩
abbrev main_call7_v14 : Ref sig .tc := ⟨.hbm, 201, rfl⟩
abbrev main_call7_cst : Ref sig .tc := ⟨.hbm, 202, rfl⟩
abbrev main_call7_v15 : Ref sig .tc := ⟨.hbm, 203, rfl⟩
abbrev main_v83 : Ref sig .tc := ⟨.hbm, 204, rfl⟩
abbrev main_v84 : Ref sig .tc := ⟨.hbm, 205, rfl⟩
abbrev main_v85 : Ref sig .tc := ⟨.hbm, 206, rfl⟩
abbrev main_v86 : Ref sig .tc := ⟨.hbm, 207, rfl⟩
abbrev main_v87 : Ref sig .tc := ⟨.hbm, 208, rfl⟩
abbrev main_v88 : Ref sig .tc := ⟨.hbm, 209, rfl⟩
abbrev main_v89 : Ref sig .tc := ⟨.hbm, 210, rfl⟩
abbrev main_v90 : Ref sig .tc := ⟨.hbm, 211, rfl⟩
abbrev main_cst_12 : Ref sig .tc := ⟨.hbm, 212, rfl⟩
abbrev main_v91 : Ref sig .tc := ⟨.hbm, 213, rfl⟩
abbrev main_v92 : Ref sig .tc := ⟨.hbm, 214, rfl⟩
abbrev main_v93 : Ref sig .tc := ⟨.hbm, 215, rfl⟩
abbrev main_cst_13 : Ref sig .tc := ⟨.hbm, 216, rfl⟩
abbrev main_v94 : Ref sig .tc := ⟨.hbm, 217, rfl⟩
abbrev main_v95 : Ref sig .tc := ⟨.hbm, 218, rfl⟩
abbrev main_v96 : Ref sig .tc := ⟨.hbm, 219, rfl⟩
abbrev main_v97 : Ref sig .tc := ⟨.hbm, 220, rfl⟩
abbrev main_v98 : Ref sig .tc := ⟨.hbm, 221, rfl⟩
abbrev main_cst_14 : Ref sig .tc := ⟨.hbm, 222, rfl⟩
abbrev main_v99 : Ref sig .tc := ⟨.hbm, 223, rfl⟩
abbrev main_v100 : Ref sig .tc := ⟨.hbm, 224, rfl⟩
abbrev main_v101 : Ref sig .tc := ⟨.hbm, 225, rfl⟩
abbrev main_v102 : Ref sig .tc := ⟨.hbm, 226, rfl⟩
abbrev main_call8_v0 : Ref sig .tc := ⟨.hbm, 227, rfl⟩
abbrev main_call8_cst : Ref sig .tc := ⟨.hbm, 228, rfl⟩
abbrev main_call8_c : Ref sig .tc := ⟨.hbm, 229, rfl⟩
abbrev main_call8_v1_0 : Ref sig .tc := ⟨.hbm, 230, rfl⟩
abbrev main_v103 : Ref sig .tc := ⟨.hbm, 231, rfl⟩
abbrev main_call9_c : Ref sig .tc := ⟨.hbm, 232, rfl⟩
abbrev main_call9_v0 : Ref sig .tc := ⟨.hbm, 233, rfl⟩
abbrev main_call9_v1 : Ref sig .tc := ⟨.hbm, 234, rfl⟩
abbrev main_call9_c_0 : Ref sig .tc := ⟨.hbm, 235, rfl⟩
abbrev main_call9_v2 : Ref sig .tc := ⟨.hbm, 236, rfl⟩
abbrev main_call9_v3 : Ref sig .tc := ⟨.hbm, 237, rfl⟩
abbrev main_call9_v4 : Ref sig .tc := ⟨.hbm, 238, rfl⟩
abbrev main_call9_v5 : Ref sig .tc := ⟨.hbm, 239, rfl⟩
abbrev main_call9_c_1 : Ref sig .tc := ⟨.hbm, 240, rfl⟩
abbrev main_call9_c_2 : Ref sig .tc := ⟨.hbm, 241, rfl⟩
abbrev main_call9_v6 : Ref sig .tc := ⟨.hbm, 242, rfl⟩
abbrev main_call9_v7 : Ref sig .tc := ⟨.hbm, 243, rfl⟩
abbrev main_call9_v8 : Ref sig .tc := ⟨.hbm, 244, rfl⟩
abbrev main_call9_v9 : Ref sig .tc := ⟨.hbm, 245, rfl⟩
abbrev main_call9_v10 : Ref sig .tc := ⟨.hbm, 246, rfl⟩
abbrev main_call9_v11 : Ref sig .tc := ⟨.hbm, 247, rfl⟩
abbrev main_call9_c_3 : Ref sig .tc := ⟨.hbm, 248, rfl⟩
abbrev main_call9_v12 : Ref sig .tc := ⟨.hbm, 249, rfl⟩
abbrev main_call9_v13 : Ref sig .tc := ⟨.hbm, 250, rfl⟩
abbrev main_call9_v14 : Ref sig .tc := ⟨.hbm, 251, rfl⟩
abbrev main_call9_cst : Ref sig .tc := ⟨.hbm, 252, rfl⟩
abbrev main_call9_v15 : Ref sig .tc := ⟨.hbm, 253, rfl⟩
abbrev main_v104 : Ref sig .tc := ⟨.hbm, 254, rfl⟩
abbrev main_v105 : Ref sig .tc := ⟨.hbm, 255, rfl⟩
abbrev main_v106 : Ref sig .tc := ⟨.hbm, 256, rfl⟩
abbrev main_v107 : Ref sig .tc := ⟨.hbm, 257, rfl⟩
abbrev main_v108 : Ref sig .tc := ⟨.hbm, 258, rfl⟩
abbrev main_v109 : Ref sig .tc := ⟨.hbm, 259, rfl⟩
abbrev main_v110 : Ref sig .tc := ⟨.hbm, 260, rfl⟩
abbrev main_v111 : Ref sig .tc := ⟨.hbm, 261, rfl⟩
abbrev main_cst_15 : Ref sig .tc := ⟨.hbm, 262, rfl⟩
abbrev main_v112 : Ref sig .tc := ⟨.hbm, 263, rfl⟩
abbrev main_v113 : Ref sig .tc := ⟨.hbm, 264, rfl⟩
abbrev main_v114 : Ref sig .tc := ⟨.hbm, 265, rfl⟩
abbrev main_cst_16 : Ref sig .tc := ⟨.hbm, 266, rfl⟩
abbrev main_v115 : Ref sig .tc := ⟨.hbm, 267, rfl⟩
abbrev main_v116 : Ref sig .tc := ⟨.hbm, 268, rfl⟩
abbrev main_v117 : Ref sig .tc := ⟨.hbm, 269, rfl⟩
abbrev main_v118 : Ref sig .tc := ⟨.hbm, 270, rfl⟩
abbrev main_v119 : Ref sig .tc := ⟨.hbm, 271, rfl⟩
abbrev main_cst_17 : Ref sig .tc := ⟨.hbm, 272, rfl⟩
abbrev main_v120 : Ref sig .tc := ⟨.hbm, 273, rfl⟩
abbrev main_v121 : Ref sig .tc := ⟨.hbm, 274, rfl⟩
abbrev main_v122 : Ref sig .tc := ⟨.hbm, 275, rfl⟩
abbrev main_v123 : Ref sig .tc := ⟨.hbm, 276, rfl⟩
abbrev main_call10_v0 : Ref sig .tc := ⟨.hbm, 277, rfl⟩
abbrev main_call10_cst : Ref sig .tc := ⟨.hbm, 278, rfl⟩
abbrev main_call10_c : Ref sig .tc := ⟨.hbm, 279, rfl⟩
abbrev main_call10_v1_0 : Ref sig .tc := ⟨.hbm, 280, rfl⟩
abbrev main_v124 : Ref sig .tc := ⟨.hbm, 281, rfl⟩
abbrev main_call11_c : Ref sig .tc := ⟨.hbm, 282, rfl⟩
abbrev main_call11_v0 : Ref sig .tc := ⟨.hbm, 283, rfl⟩
abbrev main_call11_v1 : Ref sig .tc := ⟨.hbm, 284, rfl⟩
abbrev main_call11_c_0 : Ref sig .tc := ⟨.hbm, 285, rfl⟩
abbrev main_call11_v2 : Ref sig .tc := ⟨.hbm, 286, rfl⟩
abbrev main_call11_v3 : Ref sig .tc := ⟨.hbm, 287, rfl⟩
abbrev main_call11_v4 : Ref sig .tc := ⟨.hbm, 288, rfl⟩
abbrev main_call11_v5 : Ref sig .tc := ⟨.hbm, 289, rfl⟩
abbrev main_call11_c_1 : Ref sig .tc := ⟨.hbm, 290, rfl⟩
abbrev main_call11_c_2 : Ref sig .tc := ⟨.hbm, 291, rfl⟩
abbrev main_call11_v6 : Ref sig .tc := ⟨.hbm, 292, rfl⟩
abbrev main_call11_v7 : Ref sig .tc := ⟨.hbm, 293, rfl⟩
abbrev main_call11_v8 : Ref sig .tc := ⟨.hbm, 294, rfl⟩
abbrev main_call11_v9 : Ref sig .tc := ⟨.hbm, 295, rfl⟩
abbrev main_call11_v10 : Ref sig .tc := ⟨.hbm, 296, rfl⟩
abbrev main_call11_v11 : Ref sig .tc := ⟨.hbm, 297, rfl⟩
abbrev main_call11_c_3 : Ref sig .tc := ⟨.hbm, 298, rfl⟩
abbrev main_call11_v12 : Ref sig .tc := ⟨.hbm, 299, rfl⟩
abbrev main_call11_v13 : Ref sig .tc := ⟨.hbm, 300, rfl⟩
abbrev main_call11_v14 : Ref sig .tc := ⟨.hbm, 301, rfl⟩
abbrev main_call11_cst : Ref sig .tc := ⟨.hbm, 302, rfl⟩
abbrev main_call11_v15 : Ref sig .tc := ⟨.hbm, 303, rfl⟩
abbrev main_v125 : Ref sig .tc := ⟨.hbm, 304, rfl⟩
abbrev main_v126 : Ref sig .tc := ⟨.hbm, 305, rfl⟩
abbrev main_v127 : Ref sig .tc := ⟨.hbm, 306, rfl⟩
abbrev main_v128 : Ref sig .tc := ⟨.hbm, 307, rfl⟩
abbrev main_v129 : Ref sig .tc := ⟨.hbm, 308, rfl⟩
abbrev main_v130 : Ref sig .tc := ⟨.hbm, 309, rfl⟩
abbrev main_v131 : Ref sig .tc := ⟨.hbm, 310, rfl⟩
abbrev main_v132 : Ref sig .tc := ⟨.hbm, 311, rfl⟩
abbrev main_cst_18 : Ref sig .tc := ⟨.hbm, 312, rfl⟩
abbrev main_v133 : Ref sig .tc := ⟨.hbm, 313, rfl⟩
abbrev main_v134 : Ref sig .tc := ⟨.hbm, 314, rfl⟩
abbrev main_v135 : Ref sig .tc := ⟨.hbm, 315, rfl⟩
abbrev main_cst_19 : Ref sig .tc := ⟨.hbm, 316, rfl⟩
abbrev main_v136 : Ref sig .tc := ⟨.hbm, 317, rfl⟩
abbrev main_v137 : Ref sig .tc := ⟨.hbm, 318, rfl⟩
abbrev main_v138 : Ref sig .tc := ⟨.hbm, 319, rfl⟩
abbrev main_v139 : Ref sig .tc := ⟨.hbm, 320, rfl⟩
abbrev main_v140 : Ref sig .tc := ⟨.hbm, 321, rfl⟩
abbrev main_cst_20 : Ref sig .tc := ⟨.hbm, 322, rfl⟩
abbrev main_v141 : Ref sig .tc := ⟨.hbm, 323, rfl⟩
abbrev main_v142 : Ref sig .tc := ⟨.hbm, 324, rfl⟩
abbrev main_v143 : Ref sig .tc := ⟨.hbm, 325, rfl⟩
abbrev main_v144 : Ref sig .tc := ⟨.hbm, 326, rfl⟩
abbrev main_call12_v0 : Ref sig .tc := ⟨.hbm, 327, rfl⟩
abbrev main_call12_cst : Ref sig .tc := ⟨.hbm, 328, rfl⟩
abbrev main_call12_c : Ref sig .tc := ⟨.hbm, 329, rfl⟩
abbrev main_call12_v1_0 : Ref sig .tc := ⟨.hbm, 330, rfl⟩
abbrev main_v145 : Ref sig .tc := ⟨.hbm, 331, rfl⟩
abbrev main_call13_c : Ref sig .tc := ⟨.hbm, 332, rfl⟩
abbrev main_call13_v0 : Ref sig .tc := ⟨.hbm, 333, rfl⟩
abbrev main_call13_v1 : Ref sig .tc := ⟨.hbm, 334, rfl⟩
abbrev main_call13_c_0 : Ref sig .tc := ⟨.hbm, 335, rfl⟩
abbrev main_call13_v2 : Ref sig .tc := ⟨.hbm, 336, rfl⟩
abbrev main_call13_v3 : Ref sig .tc := ⟨.hbm, 337, rfl⟩
abbrev main_call13_v4 : Ref sig .tc := ⟨.hbm, 338, rfl⟩
abbrev main_call13_v5 : Ref sig .tc := ⟨.hbm, 339, rfl⟩
abbrev main_call13_c_1 : Ref sig .tc := ⟨.hbm, 340, rfl⟩
abbrev main_call13_c_2 : Ref sig .tc := ⟨.hbm, 341, rfl⟩
abbrev main_call13_v6 : Ref sig .tc := ⟨.hbm, 342, rfl⟩
abbrev main_call13_v7 : Ref sig .tc := ⟨.hbm, 343, rfl⟩
abbrev main_call13_v8 : Ref sig .tc := ⟨.hbm, 344, rfl⟩
abbrev main_call13_v9 : Ref sig .tc := ⟨.hbm, 345, rfl⟩
abbrev main_call13_v10 : Ref sig .tc := ⟨.hbm, 346, rfl⟩
abbrev main_call13_v11 : Ref sig .tc := ⟨.hbm, 347, rfl⟩
abbrev main_call13_c_3 : Ref sig .tc := ⟨.hbm, 348, rfl⟩
abbrev main_call13_v12 : Ref sig .tc := ⟨.hbm, 349, rfl⟩
abbrev main_call13_v13 : Ref sig .tc := ⟨.hbm, 350, rfl⟩
abbrev main_call13_v14 : Ref sig .tc := ⟨.hbm, 351, rfl⟩
abbrev main_call13_cst : Ref sig .tc := ⟨.hbm, 352, rfl⟩
abbrev main_call13_v15 : Ref sig .tc := ⟨.hbm, 353, rfl⟩
abbrev main_v146 : Ref sig .tc := ⟨.hbm, 354, rfl⟩
abbrev main_v147 : Ref sig .tc := ⟨.hbm, 355, rfl⟩
abbrev main_v148 : Ref sig .tc := ⟨.hbm, 356, rfl⟩
abbrev main_v149 : Ref sig .tc := ⟨.hbm, 357, rfl⟩
abbrev main_v150 : Ref sig .tc := ⟨.hbm, 358, rfl⟩
abbrev main_v151 : Ref sig .tc := ⟨.hbm, 359, rfl⟩
abbrev main_v152 : Ref sig .tc := ⟨.hbm, 360, rfl⟩
abbrev main_v153 : Ref sig .tc := ⟨.hbm, 361, rfl⟩
abbrev main_cst_21 : Ref sig .tc := ⟨.hbm, 362, rfl⟩
abbrev main_v154 : Ref sig .tc := ⟨.hbm, 363, rfl⟩
abbrev main_v155 : Ref sig .tc := ⟨.hbm, 364, rfl⟩
abbrev main_v156 : Ref sig .tc := ⟨.hbm, 365, rfl⟩
abbrev main_cst_22 : Ref sig .tc := ⟨.hbm, 366, rfl⟩
abbrev main_v157 : Ref sig .tc := ⟨.hbm, 367, rfl⟩
abbrev main_v158 : Ref sig .tc := ⟨.hbm, 368, rfl⟩
abbrev main_v159 : Ref sig .tc := ⟨.hbm, 369, rfl⟩
abbrev main_v160 : Ref sig .tc := ⟨.hbm, 370, rfl⟩
abbrev main_v161 : Ref sig .tc := ⟨.hbm, 371, rfl⟩
abbrev main_cst_23 : Ref sig .tc := ⟨.hbm, 372, rfl⟩
abbrev main_v162 : Ref sig .tc := ⟨.hbm, 373, rfl⟩
abbrev main_v163 : Ref sig .tc := ⟨.hbm, 374, rfl⟩
abbrev main_v164 : Ref sig .tc := ⟨.hbm, 375, rfl⟩
abbrev main_v165 : Ref sig .tc := ⟨.hbm, 376, rfl⟩
abbrev main_call14_v0 : Ref sig .tc := ⟨.hbm, 377, rfl⟩
abbrev main_call14_cst : Ref sig .tc := ⟨.hbm, 378, rfl⟩
abbrev main_call14_c : Ref sig .tc := ⟨.hbm, 379, rfl⟩
abbrev main_call14_v1_0 : Ref sig .tc := ⟨.hbm, 380, rfl⟩
abbrev main_v166 : Ref sig .tc := ⟨.hbm, 381, rfl⟩
abbrev main_call15_c : Ref sig .tc := ⟨.hbm, 382, rfl⟩
abbrev main_call15_v0 : Ref sig .tc := ⟨.hbm, 383, rfl⟩
abbrev main_call15_v1 : Ref sig .tc := ⟨.hbm, 384, rfl⟩
abbrev main_call15_c_0 : Ref sig .tc := ⟨.hbm, 385, rfl⟩
abbrev main_call15_v2 : Ref sig .tc := ⟨.hbm, 386, rfl⟩
abbrev main_call15_v3 : Ref sig .tc := ⟨.hbm, 387, rfl⟩
abbrev main_call15_v4 : Ref sig .tc := ⟨.hbm, 388, rfl⟩
abbrev main_call15_v5 : Ref sig .tc := ⟨.hbm, 389, rfl⟩
abbrev main_call15_c_1 : Ref sig .tc := ⟨.hbm, 390, rfl⟩
abbrev main_call15_c_2 : Ref sig .tc := ⟨.hbm, 391, rfl⟩
abbrev main_call15_v6 : Ref sig .tc := ⟨.hbm, 392, rfl⟩
abbrev main_call15_v7 : Ref sig .tc := ⟨.hbm, 393, rfl⟩
abbrev main_call15_v8 : Ref sig .tc := ⟨.hbm, 394, rfl⟩
abbrev main_call15_v9 : Ref sig .tc := ⟨.hbm, 395, rfl⟩
abbrev main_call15_v10 : Ref sig .tc := ⟨.hbm, 396, rfl⟩
abbrev main_call15_v11 : Ref sig .tc := ⟨.hbm, 397, rfl⟩
abbrev main_call15_c_3 : Ref sig .tc := ⟨.hbm, 398, rfl⟩
abbrev main_call15_v12 : Ref sig .tc := ⟨.hbm, 399, rfl⟩
abbrev main_call15_v13 : Ref sig .tc := ⟨.hbm, 400, rfl⟩
abbrev main_call15_v14 : Ref sig .tc := ⟨.hbm, 401, rfl⟩
abbrev main_call15_cst : Ref sig .tc := ⟨.hbm, 402, rfl⟩
abbrev main_call15_v15 : Ref sig .tc := ⟨.hbm, 403, rfl⟩
abbrev main_v167 : Ref sig .tc := ⟨.hbm, 404, rfl⟩
abbrev main_v168 : Ref sig .tc := ⟨.hbm, 405, rfl⟩
abbrev main_v169 : Ref sig .tc := ⟨.hbm, 406, rfl⟩
abbrev main_v170 : Ref sig .tc := ⟨.hbm, 407, rfl⟩
abbrev main_v171 : Ref sig .tc := ⟨.hbm, 408, rfl⟩
abbrev main_v172 : Ref sig .tc := ⟨.hbm, 409, rfl⟩
abbrev main_call16_cst : Ref sig .tc := ⟨.hbm, 410, rfl⟩
abbrev main_call16_v0 : Ref sig .tc := ⟨.hbm, 411, rfl⟩
abbrev main_v173 : Ref sig .tc := ⟨.hbm, 412, rfl⟩
abbrev main_v174 : Ref sig .tc := ⟨.hbm, 413, rfl⟩
abbrev main_v175 : Ref sig .tc := ⟨.hbm, 414, rfl⟩
abbrev main_v176 : Ref sig .tc := ⟨.hbm, 415, rfl⟩
abbrev main_v177 : Ref sig .tc := ⟨.hbm, 416, rfl⟩
abbrev main_v178 : Ref sig .tc := ⟨.hbm, 417, rfl⟩
abbrev main_v179 : Ref sig .tc := ⟨.hbm, 418, rfl⟩
abbrev main_v180 : Ref sig .tc := ⟨.hbm, 419, rfl⟩
abbrev main_v181 : Ref sig .tc := ⟨.hbm, 420, rfl⟩
abbrev main_v182 : Ref sig .tc := ⟨.hbm, 421, rfl⟩
abbrev main_v183 : Ref sig .tc := ⟨.hbm, 422, rfl⟩
abbrev main_v184 : Ref sig .tc := ⟨.hbm, 423, rfl⟩
abbrev main_v185 : Ref sig .tc := ⟨.hbm, 424, rfl⟩
abbrev main_v186 : Ref sig .tc := ⟨.hbm, 425, rfl⟩
abbrev main_v187 : Ref sig .tc := ⟨.hbm, 426, rfl⟩
abbrev main_v188 : Ref sig .tc := ⟨.hbm, 427, rfl⟩
abbrev main_v189 : Ref sig .tc := ⟨.hbm, 428, rfl⟩
abbrev main_v190 : Ref sig .tc := ⟨.hbm, 429, rfl⟩
abbrev main_v191 : Ref sig .tc := ⟨.hbm, 430, rfl⟩

abbrev nD : Nat := 1
abbrev τ : Topo := Topo.v7x

variable {F : FTy → Type} [FloatOps F]
-- ==== Proof.KernelBody.lean ====
/- The kernel's body at one grid point, run symbolically once for every point. -/
module

public import Idealize.ShloMosaic.Lib.Ring
public import Idealize.ShloMosaic.Lib.Tactic
public import Idealize.ShloMosaic.Lib.WordCmp
public import proofs.«01_k».proof.Proof.Gen.KernelIdeal.Frame
public import proofs.«01_k».proof.Proof.Gen.KernelIdeal.Skeleton

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The guarded rewrite of one stage's two scratch buffers.  Under the condition `C` the region reads a block of the
    split table and overwrites the codeword scratch and the index scratch; otherwise it leaves them.  Either way the
    rest `J` runs with each scratch holding one value: the overwriting one under `C`, else the one already there. -/
theorem tie_region {α : Type} (c : Dev nD) (E : Set ℕ)
    (arg9 : Memref sig .tc .vmem S8x1024x99 .bf16) (arg10 : Memref sig .tc .vmem S1024x32 .f32) (arg11 : Memref sig .tc .vmem S1024x1 .i32)
    (C : Prop) [Decidable C] (off : Fin 3 → ℕ) (hoff : ∀ a, off a + S1x1024x99.size a ≤ S8x1024x99.size a)
    (pq' : Vec F S1x1024x99 .bf16 → FVec F S1024x32 .f32) (pq : FVec F S1024x32 .f32) (pi' pi : IVec S1024x1 32)
    (f9 : Buf (Elt F) (arg9.view.loc (c : Thread nD τ))) (f10 : Buf (Elt F) (arg10.view.loc (c : Thread nD τ))) (f11 : Buf (Elt F) (arg11.view.loc (c : Thread nD τ)))
    (J : Prog (TpuEff nD τ sig (Elt F) Λ₀ .tc) α) (Q : α → sProp 𝕄) :
    iprop((arg9.view.loc (c : Thread nD τ) ↦[arg9.view.set]{fullShare} f9)
        ∗ (arg10.view.loc (c : Thread nD τ) ↦[arg10.view.set]{fullShare} arg10.view.writes (Elt F) f10 [⟨Rect.unit ![0, 0] S1024x32.size inb_S1024x32_S1024x32_0_0, pq⟩])
        ∗ (arg11.view.loc (c : Thread nD τ) ↦[arg11.view.set]{fullShare} arg11.view.writes (Elt F) f11 [⟨Rect.unit ![0, 0] S1024x1.size inb_S1024x1_S1024x1_0_0, pi⟩])
        ∗ ((arg9.view.loc (c : Thread nD τ) ↦[arg9.view.set]{fullShare} f9)
            -∗ (∃ f, arg10.view.loc (c : Thread nD τ) ↦[arg10.view.set]{fullShare} arg10.view.writes (Elt F) f [⟨Rect.unit ![0, 0] S1024x32.size inb_S1024x32_S1024x32_0_0, if C then pq' (arg9.view.readAt (Elt F) (Rect.unit (s := S8x1024x99) off S1x1024x99.size hoff).toLoadRect f9) else pq⟩])
            -∗ (∃ f, arg11.view.loc (c : Thread nD τ) ↦[arg11.view.set]{fullShare} arg11.view.writes (Elt F) f [⟨Rect.unit ![0, 0] S1024x1.size inb_S1024x1_S1024x1_0_0, if C then pi' else pi⟩])
            -∗ wp frame (wpE (defs₀ (F := F)) Variants.none c none) E J Q))
      ⊢ wp frame (wpE (defs₀ (F := F)) Variants.none c none) E
          (if C then do
            let v456 : Vec F S1x1024x99 .bf16 ← Prog.lift (.load arg9 (Rect.unit (s := S8x1024x99) off S1x1024x99.size hoff).toLoadRect (View.loadsAt_vmem h_S1x1024x99))
            let v464 : Vec F S1024x32 .f32 ← Prog.lift (.load arg10 (Rect.unit (s := S1024x32) ![0, 0] S1024x32.size inb_S1024x32_S1024x32_0_0).toLoadRect (View.loadsAt_vmem h_S1024x32))
            Prog.lift (.store arg10 (Rect.unit (s := S1024x32) ![0, 0] S1024x32.size inb_S1024x32_S1024x32_0_0) (pq' v456) Finset.univ (View.stores_vmem_bits_univ h_S1024x32 rfl) (.inl rfl))
            let v467 : Vec F S1024x1 .i32 ← Prog.lift (.load arg11 (Rect.unit (s := S1024x1) ![0, 0] S1024x1.size inb_S1024x1_S1024x1_0_0).toLoadRect (View.loadsAt_vmem h_S1024x1))
            Prog.lift (.store arg11 (Rect.unit (s := S1024x1) ![0, 0] S1024x1.size inb_S1024x1_S1024x1_0_0) pi' Finset.univ (View.stores_vmem_bits_univ h_S1024x1 rfl) (.inl rfl))
            J
          else J) Q := by
  by_cases hC : C
  · simp only [if_pos hC]
    iintro ⟨HS0, H9, H10, Hk⟩
    sl_exec
    ispecialize Hk $$ HS0
    iapply Hk $$ [H9] [H10]
    · iexists _; iexact H9
    · iexists _; iexact H10
  · simp only [if_neg hC]
    iintro ⟨HS0, H9, H10, Hk⟩
    iapply Hk $$ [HS0] [H9] [H10]
    · iexact HS0
    · iexists _; iexact H9
    · iexists _; iexact H10

set_option sl_exec.resultNames true in
set_option maxHeartbeats 4000000 in
/-- The kernel's body at one grid point, on any whole staging memrefs.  Given the five inputs at contents `x0 … x4`, the
    carried split table at contents `xs0` and every other buffer at anything, the body runs to the continuation holding
    the inputs as they were, each output with the listed pieces written, and the carried split table at the contents
    found: what the first point's branch writes when the branch is taken, and `xs0` otherwise.  The pieces and the
    contents are the witness the run finds. -/
def run (c : Dev nD) (i : grid0.Coords)
    (arg1 : Memref sig .tc .vmem S1024x32 .f32) (harg1 : arg1.IsWhole)
    (arg2 : Memref sig .tc .vmem S32x756 .f32) (harg2 : arg2.IsWhole)
    (arg3 : Memref sig .tc .vmem S8x32x1024 .f32) (harg3 : arg3.IsWhole)
    (arg4 : Memref sig .tc .vmem S8x1024x32 .f32) (harg4 : arg4.IsWhole)
    (arg5 : Memref sig .tc .vmem S8x1x1024 .f32) (harg5 : arg5.IsWhole)
    (arg6 : Memref sig .tc .vmem S1024x756 .f32) (harg6 : arg6.IsWhole)
    (arg7 : Memref sig .tc .vmem S8x1024x32 .f32) (harg7 : arg7.IsWhole)
    (arg8 : Memref sig .tc .vmem S1024x8 .i32) (harg8 : arg8.IsWhole)
    (arg9 : Memref sig .tc .vmem S8x1024x99 .bf16) (harg9 : arg9.IsWhole)
    (arg10 : Memref sig .tc .vmem S1024x32 .f32) (harg10 : arg10.IsWhole)
    (arg11 : Memref sig .tc .vmem S1024x1 .i32) (harg11 : arg11.IsWhole)
    (x0 : Vec F S1024x32 .f32) (x1 : Vec F S32x756 .f32) (x2 : Vec F S8x32x1024 .f32) (x3 : Vec F S8x1024x32 .f32) (x4 : Vec F S8x1x1024 .f32) (xs0 : Vec F S8x1024x99 .bf16) :
    Σ' (L5 : List (View.Piece (Elt F) S1024x756 .f32)), Σ' (L6 : List (View.Piece (Elt F) S8x1024x32 .f32)), Σ' (L7 : List (View.Piece (Elt F) S1024x8 .i32)), { LS : Buf (Elt F) (arg9.view.loc (c : Thread nD τ)) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare xs0 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (arg9.view.loc (c : Thread nD τ) ↦[arg9.view.set]{fullShare} LS)
                ∗ (∃ d, owns (c : Thread nD τ) arg10 fullShare d) ∗ (∃ d, owns (c : Thread nD τ) arg11 fullShare d)) -∗ K ⟨⟩))
          ⊢ wp frame (wpE (defs₀ (F := F)) Variants.none c none) E (cc0__vq_kernel i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__vq_kernel_eq_skeleton]; unfold cc0__vq_kernel_skel
    simp only [k0_part14_eq_skeleton, k0_part3_eq_skeleton, k0_part1_eq_skeleton, k0_part2_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hfs0, HS0⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg9.eq_unread hfs0
    set_option sl_exec.stopBefore "v52" in sl_exec
    iapply tie_region
    isplitl [HS0]; · iexact HS0
    isplitl [H9]; · iexact H9
    isplitl [H10]; · iexact H10
    iintro HS0 ⟨%g0, H9⟩ ⟨%h0, H10⟩
    set_option sl_exec.stopBefore "v106" in sl_exec
    iapply tie_region
    isplitl [HS0]; · iexact HS0
    isplitl [H9]; · iexact H9
    isplitl [H10]; · iexact H10
    iintro HS0 ⟨%g1, H9⟩ ⟨%h1, H10⟩
    set_option sl_exec.stopBefore "v160" in sl_exec
    iapply tie_region
    isplitl [HS0]; · iexact HS0
    isplitl [H9]; · iexact H9
    isplitl [H10]; · iexact H10
    iintro HS0 ⟨%g2, H9⟩ ⟨%h2, H10⟩
    set_option sl_exec.stopBefore "v214" in sl_exec
    iapply tie_region
    isplitl [HS0]; · iexact HS0
    isplitl [H9]; · iexact H9
    isplitl [H10]; · iexact H10
    iintro HS0 ⟨%g3, H9⟩ ⟨%h3, H10⟩
    set_option sl_exec.stopBefore "v268" in sl_exec
    iapply tie_region
    isplitl [HS0]; · iexact HS0
    isplitl [H9]; · iexact H9
    isplitl [H10]; · iexact H10
    iintro HS0 ⟨%g4, H9⟩ ⟨%h4, H10⟩
    set_option sl_exec.stopBefore "v322" in sl_exec
    iapply tie_region
    isplitl [HS0]; · iexact HS0
    isplitl [H9]; · iexact H9
    isplitl [H10]; · iexact H10
    iintro HS0 ⟨%g5, H9⟩ ⟨%h5, H10⟩
    set_option sl_exec.stopBefore "v376" in sl_exec
    iapply tie_region
    isplitl [HS0]; · iexact HS0
    isplitl [H9]; · iexact H9
    isplitl [H10]; · iexact H10
    iintro HS0 ⟨%g6, H9⟩ ⟨%h6, H10⟩
    set_option sl_exec.stopBefore "v430" in sl_exec
    iapply tie_region
    isplitl [HS0]; · iexact HS0
    isplitl [H9]; · iexact H9
    isplitl [H10]; · iexact H10
    iintro HS0 ⟨%g7, H9⟩ ⟨%h7, H10⟩
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [HS0]; · iexact HS0
    isplitl [H9]; · iexists _, _; isplitr; swap; iexact H9; ipureintro; rfl
    iexists _, _; isplitr; swap; iexact H10; ipureintro; rfl

end Cert.KernelIdeal.Body

end
-- ==== Proof.KernelStage.lean ====
/- What the kernel's body computes at one grid point, as plain functions of the blocks it loads, and the proof that the
   run's outputs and carried scratch are those functions of its inputs. -/
module

public import Idealize.ShloMosaic.Lib.Pointwise.Index
public import Idealize.ShloMosaic.Lib.VecWindow
public import Idealize.ShloMosaic.Lib.Pipeline.FrameBody
public import proofs.«01_k».proof.Proof.KernelBody

@[expose] public section

set_option maxRecDepth 16384

noncomputable section

namespace Cert.KernelIdeal.Body

open Idealize.ShloMosaic Idealize.ShloMosaic.TcCoe Idealize.ShloMosaic.Tactic
open Idealize.SL.Sem
open Cert.KernelIdeal.Gen

variable {F : FTy → Type} [FloatOps F]

/-! ## One stage -/

/-- The distances of every row of `r` to every codeword of one stage: `(‖r‖² - 2 r·c) + ‖c‖²`. -/
def dist (r : FVec F S1024x32 .f32) (a : Vec F S1x32x1024 .f32) (b : Vec F S1x1x1024 .f32) : FVec F S1024x1024 .f32 :=
  addf
    (subf
      (broadcastTo S1024x1024 (shapeCast S1024x1 (multiReduction .add [1] S1024 (mulf r r) 0x00000000#32 reduces_S1024x32_S1024 (.inl rfl) rfl) shapeCasts_S1024_S1024x1) broadcasts_S1024x1_S1024x1024)
      (mulf (broadcast S1024x1024 (Scalar.ofBits .f32 0x40000000#32))
        (matmul dot_S1024x32_S32x1024_S1024x1024_1_0_0_1_n_n none r (shapeCast S32x1024 a shapeCasts_S1x32x1024_S32x1024) (constant S1024x1024 .f32 0x00000000#32))))
    (broadcastTo S1024x1024 (shapeCast S1x1024 b shapeCasts_S1x1x1024_S1x1024) broadcasts_S1x1024_S1024x1024)

/-- Each row's least entry. -/
def rowMin (D : FVec F S1024x1024 .f32) : FVec F S1024x1 .f32 :=
  shapeCast S1024x1 (multiReduction .minimumf [1] S1024 D 0x7F800000#32 reduces_S1024x1024_S1024 (.inl rfl) rfl) shapeCasts_S1024_S1024x1

/-- Which entries equal their row's least one. -/
def atMin (D : FVec F S1024x1024 .f32) : IVec S1024x1024 1 :=
  cmpf .oeq D (broadcastTo S1024x1024 (rowMin D) broadcasts_S1024x1_S1024x1024)

/-- A table of bits as a table of zeros and ones. -/
def bits01 (B : IVec S1024x1024 1) : FVec F S1024x1024 .bf16 :=
  truncf .bf16 (sitofp (F := F) .f32 (extui 32 B natLt_1_32)) bitsLt_bf16_f32

/-- The rows of the split table the zeros and ones of `B` select, summed. -/
def pick (B : IVec S1024x1024 1) (t : Vec F S1x1024x99 .bf16) : FVec F S1024x99 .f32 :=
  matmul dot_S1024x1024_S1024x99_S1024x99_1_0_0_1_n_n none (bits01 B) (shapeCast S1024x99 t shapeCasts_S1x1024x99_S1024x99) (constant S1024x99 .f32 0x00000000#32)

/-- The codeword the three summands of a picked row add up to. -/
def word (P : FVec F S1024x99 .f32) : FVec F S1024x32 .f32 :=
  addf (addf (extractStridedSlice S1024x32 ![0, 0] P slices_S1024x99_o0_0_S1024x32) (extractStridedSlice S1024x32 ![0, 32] P slices_S1024x99_o0_32_S1024x32))
    (extractStridedSlice S1024x32 ![0, 64] P slices_S1024x99_o0_64_S1024x32)

/-- The index the two index columns of a picked row add up to. -/
def pickedIndex (P : FVec F S1024x99 .f32) : IVec S1024x1 32 :=
  fptosi 32 (addf (extractStridedSlice S1024x1 ![0, 96] P slices_S1024x99_o0_96_S1024x1) (extractStridedSlice S1024x1 ![0, 97] P slices_S1024x99_o0_97_S1024x1))

/-- The largest count among the rows. -/
def maxCount (P : FVec F S1024x99 .f32) : F .f32 :=
  extractAt ![0, 0, 0]
    (shapeCast S1x1x1
      (multiReduction .maximumf [1, 2] S1
        (shapeCast S1x1024x1 (extractStridedSlice S1024x1 ![0, 98] P slices_S1024x99_o0_98_S1024x1) shapeCasts_S1024x1_S1x1024x1)
        0xFF800000#32 reduces_S1x1024x1_S1 (.inl rfl) rfl) shapeCasts_S1_S1x1x1) inpos_S1x1x1_p0_0_0

/-- Some row picked more than one codeword. -/
def Tie (P : FVec F S1024x99 .f32) : Prop :=
  Scalar.cmpi .ne (Scalar.extui (Scalar.cmpf .ogt (maxCount P) (Scalar.ofBits .f32 0x3F800000#32))) 0#32 = 1#1

instance (P : FVec F S1024x99 .f32) : Decidable (Tie P) := inferInstanceAs (Decidable (_ = 1#1))

/-- The least index at which a row attains its least entry. -/
def firstMin (D : FVec F S1024x1024 .f32) : IVec S1024x1 32 :=
  shapeCast S1024x1
    (multiReductionI .minsi [1] S1024
      (select (atMin D) (iota .tc S1024x1024 32 [1] iota_S1024x1024_d1_w32) (broadcast S1024x1024 1024#32))
      2147483647#32 reduces_S1024x1024_S1024 rfl) shapeCasts_S1024_S1024x1

/-- The one-hot rows of the least indices. -/
def atFirst (D : FVec F S1024x1024 .f32) : IVec S1024x1024 1 :=
  cmpi .eq (iota .tc S1024x1024 32 [1] iota_S1024x1024_d1_w32) (broadcastTo S1024x1024 (firstMin D) broadcasts_S1024x1_S1024x1024)

/-- The codewords one stage picks, from its distances and its block of the split table. -/
def stageWord (D : FVec F S1024x1024 .f32) (t : Vec F S1x1024x99 .bf16) : FVec F S1024x32 .f32 :=
  if Tie (pick (atMin D) t) then shapeCast S1024x32 (word (pick (atFirst D) t)) shapeCasts_S1024x32_S1024x32
  else shapeCast S1024x32 (word (pick (atMin D) t)) shapeCasts_S1024x32_S1024x32

/-- The indices one stage picks. -/
def stageIndex (D : FVec F S1024x1024 .f32) (t : Vec F S1x1024x99 .bf16) : IVec S1024x1 32 :=
  if Tie (pick (atMin D) t) then shapeCast S1024x1 (firstMin D) shapeCasts_S1024x1_S1024x1
  else shapeCast S1024x1 (pickedIndex (pick (atMin D) t)) shapeCasts_S1024x1_S1024x1

/-! ## The eight stages -/

theorem inb_cbt (q : ℕ) : ∀ a : Fin 3, (![q % 8, 0, 0] : Fin 3 → ℕ) a + S1x32x1024.size a ≤ S8x32x1024.size a := by
  have h := Nat.mod_lt q (show 8 > 0 by decide)
  intro a
  match a with
  | ⟨0, _⟩ => show q % 8 + 1 ≤ 8; omega
  | ⟨1, _⟩ => exact Nat.le_refl 32
  | ⟨2, _⟩ => exact Nat.le_refl 1024
theorem inb_cb (q : ℕ) : ∀ a : Fin 3, (![q % 8, 0, 0] : Fin 3 → ℕ) a + S1x1024x32.size a ≤ S8x1024x32.size a := by
  have h := Nat.mod_lt q (show 8 > 0 by decide)
  intro a
  match a with
  | ⟨0, _⟩ => show q % 8 + 1 ≤ 8; omega
  | ⟨1, _⟩ => exact Nat.le_refl 1024
  | ⟨2, _⟩ => exact Nat.le_refl 32
theorem inb_cb2 (q : ℕ) : ∀ a : Fin 3, (![q % 8, 0, 0] : Fin 3 → ℕ) a + S1x1x1024.size a ≤ S8x1x1024.size a := by
  have h := Nat.mod_lt q (show 8 > 0 by decide)
  intro a
  match a with
  | ⟨0, _⟩ => show q % 8 + 1 ≤ 8; omega
  | ⟨1, _⟩ => exact Nat.le_refl 1
  | ⟨2, _⟩ => exact Nat.le_refl 1024
theorem inb_tab (q : ℕ) : ∀ a : Fin 3, (![q % 8, 0, 0] : Fin 3 → ℕ) a + S1x1024x99.size a ≤ S8x1024x99.size a := by
  have h := Nat.mod_lt q (show 8 > 0 by decide)
  intro a
  match a with
  | ⟨0, _⟩ => show q % 8 + 1 ≤ 8; omega
  | ⟨1, _⟩ => exact Nat.le_refl 1024
  | ⟨2, _⟩ => exact Nat.le_refl 99

/-- Stage `q`'s block of the transposed codebooks, of the codebooks, of the squared norms and of the split table. -/
def cbtAt (x : Vec F S8x32x1024 .f32) (q : ℕ) : Vec F S1x32x1024 .f32 :=
  View.ld (Val := Elt F) (e' := .f32) x (Rect.unit (s := S8x32x1024) ![q % 8, 0, 0] S1x32x1024.size (inb_cbt q))
def cbAt (x : Vec F S8x1024x32 .f32) (q : ℕ) : Vec F S1x1024x32 .f32 :=
  View.ld (Val := Elt F) (e' := .f32) x (Rect.unit (s := S8x1024x32) ![q % 8, 0, 0] S1x1024x32.size (inb_cb q))
def cb2At (x : Vec F S8x1x1024 .f32) (q : ℕ) : Vec F S1x1x1024 .f32 :=
  View.ld (Val := Elt F) (e' := .f32) x (Rect.unit (s := S8x1x1024) ![q % 8, 0, 0] S1x1x1024.size (inb_cb2 q))
def tabAt (x : Vec F S8x1024x99 .bf16) (q : ℕ) : Vec F S1x1024x99 .bf16 :=
  View.ld (Val := Elt F) (e' := .bf16) x (Rect.unit (s := S8x1024x99) ![q % 8, 0, 0] S1x1024x99.size (inb_tab q))

/-- The residual before stage `q`. -/
def resAt (x0 : Vec F S1024x32 .f32) (x2 : Vec F S8x32x1024 .f32) (x4 : Vec F S8x1x1024 .f32) (T : Vec F S8x1024x99 .bf16) : ℕ → FVec F S1024x32 .f32
  | 0 => shapeCast S1024x32 x0 shapeCasts_S1024x32_S1024x32
  | q + 1 => subf (resAt x0 x2 x4 T q) (stageWord (dist (resAt x0 x2 x4 T q) (cbtAt x2 q) (cb2At x4 q)) (tabAt T q))

/-- The codewords stage `q` picks. -/
def wordAt (x0 : Vec F S1024x32 .f32) (x2 : Vec F S8x32x1024 .f32) (x4 : Vec F S8x1x1024 .f32) (T : Vec F S8x1024x99 .bf16) (q : ℕ) : FVec F S1024x32 .f32 :=
  stageWord (dist (resAt x0 x2 x4 T q) (cbtAt x2 q) (cb2At x4 q)) (tabAt T q)

/-- The indices stage `q` picks. -/
def indexAt (x0 : Vec F S1024x32 .f32) (x2 : Vec F S8x32x1024 .f32) (x4 : Vec F S8x1x1024 .f32) (T : Vec F S8x1024x99 .bf16) (q : ℕ) : IVec S1024x1 32 :=
  stageIndex (dist (resAt x0 x2 x4 T q) (cbtAt x2 q) (cb2At x4 q)) (tabAt T q)

/-- The sum of the codewords picked before stage `q`. -/
def sumAt (x0 : Vec F S1024x32 .f32) (x2 : Vec F S8x32x1024 .f32) (x4 : Vec F S8x1x1024 .f32) (T : Vec F S8x1024x99 .bf16) : ℕ → FVec F S1024x32 .f32
  | 0 => broadcast S1024x32 (Scalar.ofBits .f32 0x00000000#32)
  | q + 1 => addf (sumAt x0 x2 x4 T q) (wordAt x0 x2 x4 T q)

/-- The first output's block: the summed codewords times the output matrix, cut off below at zero. -/
def outBlock (x0 : Vec F S1024x32 .f32) (x1 : Vec F S32x756 .f32) (x2 : Vec F S8x32x1024 .f32) (x4 : Vec F S8x1x1024 .f32) (T : Vec F S8x1024x99 .bf16) : FVec F S1024x756 .f32 :=
  maximumf (matmul dot_S1024x32_S32x756_S1024x756_1_0_0_1_n_n none (sumAt x0 x2 x4 T 8) x1 (constant S1024x756 .f32 0x00000000#32))
    (broadcast S1024x756 (Scalar.ofBits .f32 0x00000000#32))

/-- The second output's block: each stage's codewords. -/
def allqBlock (x0 : Vec F S1024x32 .f32) (x2 : Vec F S8x32x1024 .f32) (x4 : Vec F S8x1x1024 .f32) (T : Vec F S8x1024x99 .bf16) : FVec F S8x1024x32 .f32 :=
  fun j => shapeCast S1x1024x32 (wordAt x0 x2 x4 T (j 0).val) shapeCasts_S1024x32_S1x1024x32 (ix3 0 (j 1) (j 2))

/-- The third output's block: each stage's indices. -/
def idxBlock (x0 : Vec F S1024x32 .f32) (x2 : Vec F S8x32x1024 .f32) (x4 : Vec F S8x1x1024 .f32) (T : Vec F S8x1024x99 .bf16) : IVec S1024x8 32 :=
  concatenate S1024x8 1 [⟨S1024x1, indexAt x0 x2 x4 T 0⟩, ⟨S1024x1, indexAt x0 x2 x4 T 1⟩, ⟨S1024x1, indexAt x0 x2 x4 T 2⟩, ⟨S1024x1, indexAt x0 x2 x4 T 3⟩, ⟨S1024x1, indexAt x0 x2 x4 T 4⟩, ⟨S1024x1, indexAt x0 x2 x4 T 5⟩, ⟨S1024x1, indexAt x0 x2 x4 T 6⟩, ⟨S1024x1, indexAt x0 x2 x4 T 7⟩] concatenates_S1024x1_S1024x1_S1024x1_S1024x1_S1024x1_S1024x1_S1024x1_S1024x1_S1024x8_d1

/-! ## The run's named values are these functions -/

section Chain

variable (c : Dev nD) (i : grid0.Coords)
    (arg1 : Memref sig .tc .vmem S1024x32 .f32) (harg1 : arg1.IsWhole)
    (arg2 : Memref sig .tc .vmem S32x756 .f32) (harg2 : arg2.IsWhole)
    (arg3 : Memref sig .tc .vmem S8x32x1024 .f32) (harg3 : arg3.IsWhole)
    (arg4 : Memref sig .tc .vmem S8x1024x32 .f32) (harg4 : arg4.IsWhole)
    (arg5 : Memref sig .tc .vmem S8x1x1024 .f32) (harg5 : arg5.IsWhole)
    (arg6 : Memref sig .tc .vmem S1024x756 .f32) (harg6 : arg6.IsWhole)
    (arg7 : Memref sig .tc .vmem S8x1024x32 .f32) (harg7 : arg7.IsWhole)
    (arg8 : Memref sig .tc .vmem S1024x8 .i32) (harg8 : arg8.IsWhole)
    (arg9 : Memref sig .tc .vmem S8x1024x99 .bf16) (harg9 : arg9.IsWhole)
    (arg10 : Memref sig .tc .vmem S1024x32 .f32) (harg10 : arg10.IsWhole)
    (arg11 : Memref sig .tc .vmem S1024x1 .i32) (harg11 : arg11.IsWhole)
    (x0 : Vec F S1024x32 .f32) (x1 : Vec F S32x756 .f32) (x2 : Vec F S8x32x1024 .f32) (x3 : Vec F S8x1024x32 .f32) (x4 : Vec F S8x1x1024 .f32) (xs0 : Vec F S8x1024x99 .bf16)

/-- What the carried scratch reads once the first point's branch is past. -/
def carried : Vec F S8x1024x99 .bf16 :=
  arg9.view.read (Elt F) (run c i arg1 harg1 arg2 harg2 arg3 harg3 arg4 harg4 arg5 harg5 arg6 harg6 arg7 harg7 arg8 harg8 arg9 harg9 arg10 harg10 arg11 harg11 x0 x1 x2 x3 x4 xs0).2.2.2.1

/-- What the body loads of its first input, and what it finds in its third and fifth. -/
def in0 : Vec F S1024x32 .f32 := arg1.view.readAt (Elt F) (Rect.unit (s := S1024x32) ![0, 0] S1024x32.size inb_S1024x32_S1024x32_0_0).toLoadRect (harg1.unread x0)
def in2 : Vec F S8x32x1024 .f32 := arg3.view.read (Elt F) (harg3.unread x2)
def in4 : Vec F S8x1x1024 .f32 := arg5.view.read (Elt F) (harg5.unread x4)

theorem res_0 : run.sl.v4 c arg1 harg1 x0 = resAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 0 := rfl
theorem sum_0 : (k0_pay22 : FVec F S1024x32 .f32) = sumAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 0 := rfl

theorem word_0 : run.sl.v53 c i arg1 harg1 arg3 harg3 arg4 harg4 arg5 harg5 arg9 harg9 arg10 x0 x2 x3 x4 xs0 = wordAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 0 := by
  unfold run.sl.v53 wordAt
  rw [View.readCov_cons_toLoadRect, ← res_0 c i arg1 harg1 arg2 harg2 arg3 harg3 arg4 harg4 arg5 harg5 arg6 harg6 arg7 harg7 arg8 harg8 arg9 harg9 arg10 harg10 arg11 harg11 x0 x1 x2 x3 x4 xs0]
  rfl
theorem index_0 : run.sl.v59 c i arg1 harg1 arg3 harg3 arg4 harg4 arg5 harg5 arg9 harg9 arg11 x0 x2 x3 x4 xs0 = indexAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 0 := by
  unfold run.sl.v59 indexAt
  rw [View.readCov_cons_toLoadRect, ← res_0 c i arg1 harg1 arg2 harg2 arg3 harg3 arg4 harg4 arg5 harg5 arg6 harg6 arg7 harg7 arg8 harg8 arg9 harg9 arg10 harg10 arg11 harg11 x0 x1 x2 x3 x4 xs0]
  rfl
theorem res_1 : run.sl.v54 c i arg1 harg1 arg3 harg3 arg4 harg4 arg5 harg5 arg9 harg9 arg10 x0 x2 x3 x4 xs0 = resAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 1 := by
  unfold run.sl.v54
  rw [word_0 c i arg1 harg1 arg2 harg2 arg3 harg3 arg4 harg4 arg5 harg5 arg6 harg6 arg7 harg7 arg8 harg8 arg9 harg9 arg10 harg10 arg11 harg11 x0 x1 x2 x3 x4 xs0, res_0 c i arg1 harg1 arg2 harg2 arg3 harg3 arg4 harg4 arg5 harg5 arg6 harg6 arg7 harg7 arg8 harg8 arg9 harg9 arg10 harg10 arg11 harg11 x0 x1 x2 x3 x4 xs0]
  rfl
theorem sum_1 : run.sl.v55 c i arg1 harg1 arg3 harg3 arg4 harg4 arg5 harg5 arg9 harg9 arg10 x0 x2 x3 x4 xs0 = sumAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 1 := by
  unfold run.sl.v55
  rw [word_0 c i arg1 harg1 arg2 harg2 arg3 harg3 arg4 harg4 arg5 harg5 arg6 harg6 arg7 harg7 arg8 harg8 arg9 harg9 arg10 harg10 arg11 harg11 x0 x1 x2 x3 x4 xs0, sum_0 c i arg1 harg1 arg2 harg2 arg3 harg3 arg4 harg4 arg5 harg5 arg6 harg6 arg7 harg7 arg8 harg8 arg9 harg9 arg10 harg10 arg11 harg11 x0 x1 x2 x3 x4 xs0]
  rfl

theorem word_1 : run.sl.v107 c i arg1 harg1 arg3 harg3 arg4 harg4 arg5 harg5 arg9 harg9 arg10 x0 x2 x3 x4 xs0 = wordAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 1 := by
  unfold run.sl.v107 wordAt
  rw [View.readCov_cons_toLoadRect, ← res_1 c i arg1 harg1 arg2 harg2 arg3 harg3 arg4 harg4 arg5 harg5 arg6 harg6 arg7 harg7 arg8 harg8 arg9 harg9 arg10 harg10 arg11 harg11 x0 x1 x2 x3 x4 xs0]
  rfl
theorem index_1 : run.sl.v113 c i arg1 harg1 arg3 harg3 arg4 harg4 arg5 harg5 arg9 harg9 arg10 arg11 x0 x2 x3 x4 xs0 = indexAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 1 := by
  unfold run.sl.v113 indexAt
  rw [View.readCov_cons_toLoadRect, ← res_1 c i arg1 harg1 arg2 harg2 arg3 harg3 arg4 harg4 arg5 harg5 arg6 harg6 arg7 harg7 arg8 harg8 arg9 harg9 arg10 harg10 arg11 harg11 x0 x1 x2 x3 x4 xs0]
  rfl
theorem res_2 : run.sl.v108 c i arg1 harg1 arg3 harg3 arg4 harg4 arg5 harg5 arg9 harg9 arg10 x0 x2 x3 x4 xs0 = resAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 2 := by
  unfold run.sl.v108
  rw [word_1 c i arg1 harg1 arg2 harg2 arg3 harg3 arg4 harg4 arg5 harg5 arg6 harg6 arg7 harg7 arg8 harg8 arg9 harg9 arg10 harg10 arg11 harg11 x0 x1 x2 x3 x4 xs0, res_1 c i arg1 harg1 arg2 harg2 arg3 harg3 arg4 harg4 arg5 harg5 arg6 harg6 arg7 harg7 arg8 harg8 arg9 harg9 arg10 harg10 arg11 harg11 x0 x1 x2 x3 x4 xs0]
  rfl
theorem sum_2 : run.sl.v109 c i arg1 harg1 arg3 harg3 arg4 harg4 arg5 harg5 arg9 harg9 arg10 x0 x2 x3 x4 xs0 = sumAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 2 := by
  unfold run.sl.v109
  rw [word_1 c i arg1 harg1 arg2 harg2 arg3 harg3 arg4 harg4 arg5 harg5 arg6 harg6 arg7 harg7 arg8 harg8 arg9 harg9 arg10 harg10 arg11 harg11 x0 x1 x2 x3 x4 xs0, sum_1 c i arg1 harg1 arg2 harg2 arg3 harg3 arg4 harg4 arg5 harg5 arg6 harg6 arg7 harg7 arg8 harg8 arg9 harg9 arg10 harg10 arg11 harg11 x0 x1 x2 x3 x4 xs0]
  rfl

theorem word_2 : run.sl.v161 c i arg1 harg1 arg3 harg3 arg4 harg4 arg5 harg5 arg9 harg9 arg10 x0 x2 x3 x4 xs0 = wordAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 2 := by
  unfold run.sl.v161 wordAt
  rw [View.readCov_cons_toLoadRect, ← res_2 c i arg1 harg1 arg2 harg2 arg3 harg3 arg4 harg4 arg5 harg5 arg6 harg6 arg7 harg7 arg8 harg8 arg9 harg9 arg10 harg10 arg11 harg11 x0 x1 x2 x3 x4 xs0]
  rfl
theorem index_2 : run.sl.v167 c i arg1 harg1 arg3 harg3 arg4 harg4 arg5 harg5 arg9 harg9 arg10 arg11 x0 x2 x3 x4 xs0 = indexAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 2 := by
  unfold run.sl.v167 indexAt
  rw [View.readCov_cons_toLoadRect, ← res_2 c i arg1 harg1 arg2 harg2 arg3 harg3 arg4 harg4 arg5 harg5 arg6 harg6 arg7 harg7 arg8 harg8 arg9 harg9 arg10 harg10 arg11 harg11 x0 x1 x2 x3 x4 xs0]
  rfl
theorem res_3 : run.sl.v162 c i arg1 harg1 arg3 harg3 arg4 harg4 arg5 harg5 arg9 harg9 arg10 x0 x2 x3 x4 xs0 = resAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 3 := by
  unfold run.sl.v162
  rw [word_2 c i arg1 harg1 arg2 harg2 arg3 harg3 arg4 harg4 arg5 harg5 arg6 harg6 arg7 harg7 arg8 harg8 arg9 harg9 arg10 harg10 arg11 harg11 x0 x1 x2 x3 x4 xs0, res_2 c i arg1 harg1 arg2 harg2 arg3 harg3 arg4 harg4 arg5 harg5 arg6 harg6 arg7 harg7 arg8 harg8 arg9 harg9 arg10 harg10 arg11 harg11 x0 x1 x2 x3 x4 xs0]
  rfl
theorem sum_3 : run.sl.v163 c i arg1 harg1 arg3 harg3 arg4 harg4 arg5 harg5 arg9 harg9 arg10 x0 x2 x3 x4 xs0 = sumAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 3 := by
  unfold run.sl.v163
  rw [word_2 c i arg1 harg1 arg2 harg2 arg3 harg3 arg4 harg4 arg5 harg5 arg6 harg6 arg7 harg7 arg8 harg8 arg9 harg9 arg10 harg10 arg11 harg11 x0 x1 x2 x3 x4 xs0, sum_2 c i arg1 harg1 arg2 harg2 arg3 harg3 arg4 harg4 arg5 harg5 arg6 harg6 arg7 harg7 arg8 harg8 arg9 harg9 arg10 harg10 arg11 harg11 x0 x1 x2 x3 x4 xs0]
  rfl

theorem word_3 : run.sl.v215 c i arg1 harg1 arg3 harg3 arg4 harg4 arg5 harg5 arg9 harg9 arg10 x0 x2 x3 x4 xs0 = wordAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 3 := by
  unfold run.sl.v215 wordAt
  rw [View.readCov_cons_toLoadRect, ← res_3 c i arg1 harg1 arg2 harg2 arg3 harg3 arg4 harg4 arg5 harg5 arg6 harg6 arg7 harg7 arg8 harg8 arg9 harg9 arg10 harg10 arg11 harg11 x0 x1 x2 x3 x4 xs0]
  rfl
theorem index_3 : run.sl.v221 c i arg1 harg1 arg3 harg3 arg4 harg4 arg5 harg5 arg9 harg9 arg10 arg11 x0 x2 x3 x4 xs0 = indexAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 3 := by
  unfold run.sl.v221 indexAt
  rw [View.readCov_cons_toLoadRect, ← res_3 c i arg1 harg1 arg2 harg2 arg3 harg3 arg4 harg4 arg5 harg5 arg6 harg6 arg7 harg7 arg8 harg8 arg9 harg9 arg10 harg10 arg11 harg11 x0 x1 x2 x3 x4 xs0]
  rfl
theorem res_4 : run.sl.v216 c i arg1 harg1 arg3 harg3 arg4 harg4 arg5 harg5 arg9 harg9 arg10 x0 x2 x3 x4 xs0 = resAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 4 := by
  unfold run.sl.v216
  rw [word_3 c i arg1 harg1 arg2 harg2 arg3 harg3 arg4 harg4 arg5 harg5 arg6 harg6 arg7 harg7 arg8 harg8 arg9 harg9 arg10 harg10 arg11 harg11 x0 x1 x2 x3 x4 xs0, res_3 c i arg1 harg1 arg2 harg2 arg3 harg3 arg4 harg4 arg5 harg5 arg6 harg6 arg7 harg7 arg8 harg8 arg9 harg9 arg10 harg10 arg11 harg11 x0 x1 x2 x3 x4 xs0]
  rfl
theorem sum_4 : run.sl.v217 c i arg1 harg1 arg3 harg3 arg4 harg4 arg5 harg5 arg9 harg9 arg10 x0 x2 x3 x4 xs0 = sumAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 4 := by
  unfold run.sl.v217
  rw [word_3 c i arg1 harg1 arg2 harg2 arg3 harg3 arg4 harg4 arg5 harg5 arg6 harg6 arg7 harg7 arg8 harg8 arg9 harg9 arg10 harg10 arg11 harg11 x0 x1 x2 x3 x4 xs0, sum_3 c i arg1 harg1 arg2 harg2 arg3 harg3 arg4 harg4 arg5 harg5 arg6 harg6 arg7 harg7 arg8 harg8 arg9 harg9 arg10 harg10 arg11 harg11 x0 x1 x2 x3 x4 xs0]
  rfl

theorem word_4 : run.sl.v269 c i arg1 harg1 arg3 harg3 arg4 harg4 arg5 harg5 arg9 harg9 arg10 x0 x2 x3 x4 xs0 = wordAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 4 := by
  unfold run.sl.v269 wordAt
  rw [View.readCov_cons_toLoadRect, ← res_4 c i arg1 harg1 arg2 harg2 arg3 harg3 arg4 harg4 arg5 harg5 arg6 harg6 arg7 harg7 arg8 harg8 arg9 harg9 arg10 harg10 arg11 harg11 x0 x1 x2 x3 x4 xs0]
  rfl
theorem index_4 : run.sl.v275 c i arg1 harg1 arg3 harg3 arg4 harg4 arg5 harg5 arg9 harg9 arg10 arg11 x0 x2 x3 x4 xs0 = indexAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 4 := by
  unfold run.sl.v275 indexAt
  rw [View.readCov_cons_toLoadRect, ← res_4 c i arg1 harg1 arg2 harg2 arg3 harg3 arg4 harg4 arg5 harg5 arg6 harg6 arg7 harg7 arg8 harg8 arg9 harg9 arg10 harg10 arg11 harg11 x0 x1 x2 x3 x4 xs0]
  rfl
theorem res_5 : run.sl.v270 c i arg1 harg1 arg3 harg3 arg4 harg4 arg5 harg5 arg9 harg9 arg10 x0 x2 x3 x4 xs0 = resAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 5 := by
  unfold run.sl.v270
  rw [word_4 c i arg1 harg1 arg2 harg2 arg3 harg3 arg4 harg4 arg5 harg5 arg6 harg6 arg7 harg7 arg8 harg8 arg9 harg9 arg10 harg10 arg11 harg11 x0 x1 x2 x3 x4 xs0, res_4 c i arg1 harg1 arg2 harg2 arg3 harg3 arg4 harg4 arg5 harg5 arg6 harg6 arg7 harg7 arg8 harg8 arg9 harg9 arg10 harg10 arg11 harg11 x0 x1 x2 x3 x4 xs0]
  rfl
theorem sum_5 : run.sl.v271 c i arg1 harg1 arg3 harg3 arg4 harg4 arg5 harg5 arg9 harg9 arg10 x0 x2 x3 x4 xs0 = sumAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 5 := by
  unfold run.sl.v271
  rw [word_4 c i arg1 harg1 arg2 harg2 arg3 harg3 arg4 harg4 arg5 harg5 arg6 harg6 arg7 harg7 arg8 harg8 arg9 harg9 arg10 harg10 arg11 harg11 x0 x1 x2 x3 x4 xs0, sum_4 c i arg1 harg1 arg2 harg2 arg3 harg3 arg4 harg4 arg5 harg5 arg6 harg6 arg7 harg7 arg8 harg8 arg9 harg9 arg10 harg10 arg11 harg11 x0 x1 x2 x3 x4 xs0]
  rfl

theorem word_5 : run.sl.v323 c i arg1 harg1 arg3 harg3 arg4 harg4 arg5 harg5 arg9 harg9 arg10 x0 x2 x3 x4 xs0 = wordAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 5 := by
  unfold run.sl.v323 wordAt
  rw [View.readCov_cons_toLoadRect, ← res_5 c i arg1 harg1 arg2 harg2 arg3 harg3 arg4 harg4 arg5 harg5 arg6 harg6 arg7 harg7 arg8 harg8 arg9 harg9 arg10 harg10 arg11 harg11 x0 x1 x2 x3 x4 xs0]
  rfl
theorem index_5 : run.sl.v329 c i arg1 harg1 arg3 harg3 arg4 harg4 arg5 harg5 arg9 harg9 arg10 arg11 x0 x2 x3 x4 xs0 = indexAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 5 := by
  unfold run.sl.v329 indexAt
  rw [View.readCov_cons_toLoadRect, ← res_5 c i arg1 harg1 arg2 harg2 arg3 harg3 arg4 harg4 arg5 harg5 arg6 harg6 arg7 harg7 arg8 harg8 arg9 harg9 arg10 harg10 arg11 harg11 x0 x1 x2 x3 x4 xs0]
  rfl
theorem res_6 : run.sl.v324 c i arg1 harg1 arg3 harg3 arg4 harg4 arg5 harg5 arg9 harg9 arg10 x0 x2 x3 x4 xs0 = resAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 6 := by
  unfold run.sl.v324
  rw [word_5 c i arg1 harg1 arg2 harg2 arg3 harg3 arg4 harg4 arg5 harg5 arg6 harg6 arg7 harg7 arg8 harg8 arg9 harg9 arg10 harg10 arg11 harg11 x0 x1 x2 x3 x4 xs0, res_5 c i arg1 harg1 arg2 harg2 arg3 harg3 arg4 harg4 arg5 harg5 arg6 harg6 arg7 harg7 arg8 harg8 arg9 harg9 arg10 harg10 arg11 harg11 x0 x1 x2 x3 x4 xs0]
  rfl
theorem sum_6 : run.sl.v325 c i arg1 harg1 arg3 harg3 arg4 harg4 arg5 harg5 arg9 harg9 arg10 x0 x2 x3 x4 xs0 = sumAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 6 := by
  unfold run.sl.v325
  rw [word_5 c i arg1 harg1 arg2 harg2 arg3 harg3 arg4 harg4 arg5 harg5 arg6 harg6 arg7 harg7 arg8 harg8 arg9 harg9 arg10 harg10 arg11 harg11 x0 x1 x2 x3 x4 xs0, sum_5 c i arg1 harg1 arg2 harg2 arg3 harg3 arg4 harg4 arg5 harg5 arg6 harg6 arg7 harg7 arg8 harg8 arg9 harg9 arg10 harg10 arg11 harg11 x0 x1 x2 x3 x4 xs0]
  rfl

theorem word_6 : run.sl.v377 c i arg1 harg1 arg3 harg3 arg4 harg4 arg5 harg5 arg9 harg9 arg10 x0 x2 x3 x4 xs0 = wordAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 6 := by
  unfold run.sl.v377 wordAt
  rw [View.readCov_cons_toLoadRect, ← res_6 c i arg1 harg1 arg2 harg2 arg3 harg3 arg4 harg4 arg5 harg5 arg6 harg6 arg7 harg7 arg8 harg8 arg9 harg9 arg10 harg10 arg11 harg11 x0 x1 x2 x3 x4 xs0]
  rfl
theorem index_6 : run.sl.v383 c i arg1 harg1 arg3 harg3 arg4 harg4 arg5 harg5 arg9 harg9 arg10 arg11 x0 x2 x3 x4 xs0 = indexAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 6 := by
  unfold run.sl.v383 indexAt
  rw [View.readCov_cons_toLoadRect, ← res_6 c i arg1 harg1 arg2 harg2 arg3 harg3 arg4 harg4 arg5 harg5 arg6 harg6 arg7 harg7 arg8 harg8 arg9 harg9 arg10 harg10 arg11 harg11 x0 x1 x2 x3 x4 xs0]
  rfl
theorem res_7 : k0_pay35 (run.sl.v324 c i arg1 harg1 arg3 harg3 arg4 harg4 arg5 harg5 arg9 harg9 arg10 x0 x2 x3 x4 xs0) (run.sl.v377 c i arg1 harg1 arg3 harg3 arg4 harg4 arg5 harg5 arg9 harg9 arg10 x0 x2 x3 x4 xs0) = resAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 7 := by
  rw [word_6 c i arg1 harg1 arg2 harg2 arg3 harg3 arg4 harg4 arg5 harg5 arg6 harg6 arg7 harg7 arg8 harg8 arg9 harg9 arg10 harg10 arg11 harg11 x0 x1 x2 x3 x4 xs0, res_6 c i arg1 harg1 arg2 harg2 arg3 harg3 arg4 harg4 arg5 harg5 arg6 harg6 arg7 harg7 arg8 harg8 arg9 harg9 arg10 harg10 arg11 harg11 x0 x1 x2 x3 x4 xs0]
  rfl
theorem sum_7 : run.sl.v379 c i arg1 harg1 arg3 harg3 arg4 harg4 arg5 harg5 arg9 harg9 arg10 x0 x2 x3 x4 xs0 = sumAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 7 := by
  unfold run.sl.v379
  rw [word_6 c i arg1 harg1 arg2 harg2 arg3 harg3 arg4 harg4 arg5 harg5 arg6 harg6 arg7 harg7 arg8 harg8 arg9 harg9 arg10 harg10 arg11 harg11 x0 x1 x2 x3 x4 xs0, sum_6 c i arg1 harg1 arg2 harg2 arg3 harg3 arg4 harg4 arg5 harg5 arg6 harg6 arg7 harg7 arg8 harg8 arg9 harg9 arg10 harg10 arg11 harg11 x0 x1 x2 x3 x4 xs0]
  rfl

theorem word_7 : run.sl.v431 c i arg1 harg1 arg3 harg3 arg4 harg4 arg5 harg5 arg9 harg9 arg10 x0 x2 x3 x4 xs0 = wordAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 7 := by
  unfold run.sl.v431 wordAt
  rw [View.readCov_cons_toLoadRect, ← res_7 c i arg1 harg1 arg2 harg2 arg3 harg3 arg4 harg4 arg5 harg5 arg6 harg6 arg7 harg7 arg8 harg8 arg9 harg9 arg10 harg10 arg11 harg11 x0 x1 x2 x3 x4 xs0]
  rfl
theorem index_7 : run.sl.v436 c i arg1 harg1 arg3 harg3 arg4 harg4 arg5 harg5 arg9 harg9 arg10 arg11 x0 x2 x3 x4 xs0 = indexAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 7 := by
  unfold run.sl.v436 indexAt
  rw [View.readCov_cons_toLoadRect, ← res_7 c i arg1 harg1 arg2 harg2 arg3 harg3 arg4 harg4 arg5 harg5 arg6 harg6 arg7 harg7 arg8 harg8 arg9 harg9 arg10 harg10 arg11 harg11 x0 x1 x2 x3 x4 xs0]
  rfl
theorem sum_8 : run.sl.r c i arg1 harg1 arg3 harg3 arg4 harg4 arg5 harg5 arg9 harg9 arg10 x0 x2 x3 x4 xs0 = sumAt (in0 arg1 harg1 x0) (in2 arg3 harg3 x2) (in4 arg5 harg5 x4) (carried c i arg1 harg1 arg2 harg2 arg3 harg3 arg4 harg4 arg5 harg5 arg6 harg6 arg7 harg7 arg8 harg8 arg9 harg9 arg10 harg10 arg11 harg11 x0 x1 x2 x3 x4 xs0) 8 := by
  unfold run.sl.r
  rw [word_7 c i arg1 harg1 arg2 harg2 arg3 harg3 arg4 harg4 arg5 harg5 arg6 harg6 arg7 harg7 arg8 harg8 arg9 harg9 arg10 harg10 arg11 harg11 x0 x1 x2 x3 x4 xs0, sum_7 c i arg1 harg1 arg2 harg2 arg3 harg3 arg4 harg4 arg5 harg5 arg6 harg6 arg7 harg7 arg8 harg8 arg9 harg9 arg10 harg10 arg11 harg11 x0 x1 x2 x3 x4 xs0]
  rfl

theorem x0_eq : in0 arg1 harg1 x0 = x0 := (View.readAt_full _ _ _).trans (harg1.read_unread x0)
theorem x2_eq : in2 arg3 harg3 x2 = x2 := harg3.read_unread x2
theorem x4_eq : in4 arg5 harg5 x4 = x4 := harg5.read_unread x4
theorem x1_eq : run.sl.r_1 c arg2 harg2 x1 = x1 := (View.readAt_full _ _ _).trans (harg2.read_unread x1)

/-- The pieces the first output ends with. -/
theorem run_out5 : (run c i arg1 harg1 arg2 harg2 arg3 harg3 arg4 harg4 arg5 harg5 arg6 harg6 arg7 harg7 arg8 harg8 arg9 harg9 arg10 harg10 arg11 harg11 x0 x1 x2 x3 x4 xs0).1 = [⟨Rect.unit (s := S1024x756) ![0, 0] S1024x756.size inb_S1024x756_S1024x756_0_0, outBlock x0 x1 x2 x4 (carried c i arg1 harg1 arg2 harg2 arg3 harg3 arg4 harg4 arg5 harg5 arg6 harg6 arg7 harg7 arg8 harg8 arg9 harg9 arg10 harg10 arg11 harg11 x0 x1 x2 x3 x4 xs0)⟩] := by
  show [(⟨Rect.unit (s := S1024x756) ![0, 0] S1024x756.size inb_S1024x756_S1024x756_0_0, k0_pay1 (run.sl.r c i arg1 harg1 arg3 harg3 arg4 harg4 arg5 harg5 arg9 harg9 arg10 x0 x2 x3 x4 xs0) (run.sl.r_1 c arg2 harg2 x1) run.sl.cst_223⟩ : View.Piece (Elt F) S1024x756 .f32)] = _
  rw [sum_8 c i arg1 harg1 arg2 harg2 arg3 harg3 arg4 harg4 arg5 harg5 arg6 harg6 arg7 harg7 arg8 harg8 arg9 harg9 arg10 harg10 arg11 harg11 x0 x1 x2 x3 x4 xs0, x0_eq, x1_eq, x2_eq, x4_eq]
  rfl

/-- The pieces the third output ends with. -/
theorem run_out7 : (run c i arg1 harg1 arg2 harg2 arg3 harg3 arg4 harg4 arg5 harg5 arg6 harg6 arg7 harg7 arg8 harg8 arg9 harg9 arg10 harg10 arg11 harg11 x0 x1 x2 x3 x4 xs0).2.2.1 = [⟨Rect.unit (s := S1024x8) ![0, 0] S1024x8.size inb_S1024x8_S1024x8_0_0, idxBlock x0 x2 x4 (carried c i arg1 harg1 arg2 harg2 arg3 harg3 arg4 harg4 arg5 harg5 arg6 harg6 arg7 harg7 arg8 harg8 arg9 harg9 arg10 harg10 arg11 harg11 x0 x1 x2 x3 x4 xs0)⟩] := by
  show [(⟨Rect.unit (s := S1024x8) ![0, 0] S1024x8.size inb_S1024x8_S1024x8_0_0, k0_pay134 (run.sl.v59 c i arg1 harg1 arg3 harg3 arg4 harg4 arg5 harg5 arg9 harg9 arg11 x0 x2 x3 x4 xs0) (run.sl.v113 c i arg1 harg1 arg3 harg3 arg4 harg4 arg5 harg5 arg9 harg9 arg10 arg11 x0 x2 x3 x4 xs0) (run.sl.v167 c i arg1 harg1 arg3 harg3 arg4 harg4 arg5 harg5 arg9 harg9 arg10 arg11 x0 x2 x3 x4 xs0) (run.sl.v221 c i arg1 harg1 arg3 harg3 arg4 harg4 arg5 harg5 arg9 harg9 arg10 arg11 x0 x2 x3 x4 xs0) (run.sl.v275 c i arg1 harg1 arg3 harg3 arg4 harg4 arg5 harg5 arg9 harg9 arg10 arg11 x0 x2 x3 x4 xs0) (run.sl.v329 c i arg1 harg1 arg3 harg3 arg4 harg4 arg5 harg5 arg9 harg9 arg10 arg11 x0 x2 x3 x4 xs0) (run.sl.v383 c i arg1 harg1 arg3 harg3 arg4 harg4 arg5 harg5 arg9 harg9 arg10 arg11 x0 x2 x3 x4 xs0) (run.sl.v436 c i arg1 harg1 arg3 harg3 arg4 harg4 arg5 harg5 arg9 harg9 arg10 arg11 x0 x2 x3 x4 xs0)⟩ : View.Piece (Elt F) S1024x8 .i32)] = _
  rw [index_0 c i arg1 harg1 arg2 harg2 arg3 harg3 arg4 harg4 arg5 harg5 arg6 harg6 arg7 harg7 arg8 harg8 arg9 harg9 arg10 harg10 arg11 harg11 x0 x1 x2 x3 x4 xs0, index_1 c i arg1 harg1 arg2 harg2 arg3 harg3 arg4 harg4 arg5 harg5 arg6 harg6 arg7 harg7 arg8 harg8 arg9 harg9 arg10 harg10 arg11 harg11 x0 x1 x2 x3 x4 xs0, index_2 c i arg1 harg1 arg2 harg2 arg3 harg3 arg4 harg4 arg5 harg5 arg6 harg6 arg7 harg7 arg8 harg8 arg9 harg9 arg10 harg10 arg11 harg11 x0 x1 x2 x3 x4 xs0, index_3 c i arg1 harg1 arg2 harg2 arg3 harg3 arg4 harg4 arg5 harg5 arg6 harg6 arg7 harg7 arg8 harg8 arg9 harg9 arg10 harg10 arg11 harg11 x0 x1 x2 x3 x4 xs0, index_4 c i arg1 harg1 arg2 harg2 arg3 harg3 arg4 harg4 arg5 harg5 arg6 harg6 arg7 harg7 arg8 harg8 arg9 harg9 arg10 harg10 arg11 harg11 x0 x1 x2 x3 x4 xs0, index_5 c i arg1 harg1 arg2 harg2 arg3 harg3 arg4 harg4 arg5 harg5 arg6 harg6 arg7 harg7 arg8 harg8 arg9 harg9 arg10 harg10 arg11 harg11 x0 x1 x2 x3 x4 xs0, index_6 c i arg1 harg1 arg2 harg2 arg3 harg3 arg4 harg4 arg5 harg5 arg6 harg6 arg7 harg7 arg8 harg8 arg9 harg9 arg10 harg10 arg11 harg11 x0 x1 x2 x3 x4 xs0, index_7 c i arg1 harg1 arg2 harg2 arg3 harg3 arg4 harg4 arg5 harg5 arg6 harg6 arg7 harg7 arg8 harg8 arg9 harg9 arg10 harg10 arg11 harg11 x0 x1 x2 x3 x4 xs0, x0_eq, x2_eq, x4_eq]
  rfl

/-- The piece stage `q` writes into the second output. -/
def allqPiece (W : FVec F S1024x32 .f32) (q : ℕ) : View.Piece (Elt F) S8x1024x32 .f32 :=
  ⟨Rect.unit (s := S8x1024x32) ![q % 8, 0, 0] S1x1024x32.size (inb_cb q), shapeCast S1x1024x32 W shapeCasts_S1024x32_S1x1024x32⟩

/-- The pieces the second output ends with, the last stage's first. -/
theorem run_out6 : (run c i arg1 harg1 arg2 harg2 arg3 harg3 arg4 harg4 arg5 harg5 arg6 harg6 arg7 harg7 arg8 harg8 arg9 harg9 arg10 harg10 arg11 harg11 x0 x1 x2 x3 x4 xs0).2.1 = [allqPiece (wordAt x0 x2 x4 (carried c i arg1 harg1 arg2 harg2 arg3 harg3 arg4 harg4 arg5 harg5 arg6 harg6 arg7 harg7 arg8 harg8 arg9 harg9 arg10 harg10 arg11 harg11 x0 x1 x2 x3 x4 xs0) 7) 7, allqPiece (wordAt x0 x2 x4 (carried c i arg1 harg1 arg2 harg2 arg3 harg3 arg4 harg4 arg5 harg5 arg6 harg6 arg7 harg7 arg8 harg8 arg9 harg9 arg10 harg10 arg11 harg11 x0 x1 x2 x3 x4 xs0) 6) 6, allqPiece (wordAt x0 x2 x4 (carried c i arg1 harg1 arg2 harg2 arg3 harg3 arg4 harg4 arg5 harg5 arg6 harg6 arg7 harg7 arg8 harg8 arg9 harg9 arg10 harg10 arg11 harg11 x0 x1 x2 x3 x4 xs0) 5) 5, allqPiece (wordAt x0 x2 x4 (carried c i arg1 harg1 arg2 harg2 arg3 harg3 arg4 harg4 arg5 harg5 arg6 harg6 arg7 harg7 arg8 harg8 arg9 harg9 arg10 harg10 arg11 harg11 x0 x1 x2 x3 x4 xs0) 4) 4, allqPiece (wordAt x0 x2 x4 (carried c i arg1 harg1 arg2 harg2 arg3 harg3 arg4 harg4 arg5 harg5 arg6 harg6 arg7 harg7 arg8 harg8 arg9 harg9 arg10 harg10 arg11 harg11 x0 x1 x2 x3 x4 xs0) 3) 3, allqPiece (wordAt x0 x2 x4 (carried c i arg1 harg1 arg2 harg2 arg3 harg3 arg4 harg4 arg5 harg5 arg6 harg6 arg7 harg7 arg8 harg8 arg9 harg9 arg10 harg10 arg11 harg11 x0 x1 x2 x3 x4 xs0) 2) 2, allqPiece (wordAt x0 x2 x4 (carried c i arg1 harg1 arg2 harg2 arg3 harg3 arg4 harg4 arg5 harg5 arg6 harg6 arg7 harg7 arg8 harg8 arg9 harg9 arg10 harg10 arg11 harg11 x0 x1 x2 x3 x4 xs0) 1) 1, allqPiece (wordAt x0 x2 x4 (carried c i arg1 harg1 arg2 harg2 arg3 harg3 arg4 harg4 arg5 harg5 arg6 harg6 arg7 harg7 arg8 harg8 arg9 harg9 arg10 harg10 arg11 harg11 x0 x1 x2 x3 x4 xs0) 0) 0] := by
  show [allqPiece (run.sl.v431 c i arg1 harg1 arg3 harg3 arg4 harg4 arg5 harg5 arg9 harg9 arg10 x0 x2 x3 x4 xs0) 7, allqPiece (run.sl.v377 c i arg1 harg1 arg3 harg3 arg4 harg4 arg5 harg5 arg9 harg9 arg10 x0 x2 x3 x4 xs0) 6, allqPiece (run.sl.v323 c i arg1 harg1 arg3 harg3 arg4 harg4 arg5 harg5 arg9 harg9 arg10 x0 x2 x3 x4 xs0) 5, allqPiece (run.sl.v269 c i arg1 harg1 arg3 harg3 arg4 harg4 arg5 harg5 arg9 harg9 arg10 x0 x2 x3 x4 xs0) 4, allqPiece (run.sl.v215 c i arg1 harg1 arg3 harg3 arg4 harg4 arg5 harg5 arg9 harg9 arg10 x0 x2 x3 x4 xs0) 3, allqPiece (run.sl.v161 c i arg1 harg1 arg3 harg3 arg4 harg4 arg5 harg5 arg9 harg9 arg10 x0 x2 x3 x4 xs0) 2, allqPiece (run.sl.v107 c i arg1 harg1 arg3 harg3 arg4 harg4 arg5 harg5 arg9 harg9 arg10 x0 x2 x3 x4 xs0) 1, allqPiece (run.sl.v53 c i arg1 harg1 arg3 harg3 arg4 harg4 arg5 harg5 arg9 harg9 arg10 x0 x2 x3 x4 xs0) 0] = _
  rw [word_0 c i arg1 harg1 arg2 harg2 arg3 harg3 arg4 harg4 arg5 harg5 arg6 harg6 arg7 harg7 arg8 harg8 arg9 harg9 arg10 harg10 arg11 harg11 x0 x1 x2 x3 x4 xs0, word_1 c i arg1 harg1 arg2 harg2 arg3 harg3 arg4 harg4 arg5 harg5 arg6 harg6 arg7 harg7 arg8 harg8 arg9 harg9 arg10 harg10 arg11 harg11 x0 x1 x2 x3 x4 xs0, word_2 c i arg1 harg1 arg2 harg2 arg3 harg3 arg4 harg4 arg5 harg5 arg6 harg6 arg7 harg7 arg8 harg8 arg9 harg9 arg10 harg10 arg11 harg11 x0 x1 x2 x3 x4 xs0, word_3 c i arg1 harg1 arg2 harg2 arg3 harg3 arg4 harg4 arg5 harg5 arg6 harg6 arg7 harg7 arg8 harg8 arg9 harg9 arg10 harg10 arg11 harg11 x0 x1 x2 x3 x4 xs0, word_4 c i arg1 harg1 arg2 harg2 arg3 harg3 arg4 harg4 arg5 harg5 arg6 harg6 arg7 harg7 arg8 harg8 arg9 harg9 arg10 harg10 arg11 harg11 x0 x1 x2 x3 x4 xs0, word_5 c i arg1 harg1 arg2 harg2 arg3 harg3 arg4 harg4 arg5 harg5 arg6 harg6 arg7 harg7 arg8 harg8 arg9 harg9 arg10 harg10 arg11 harg11 x0 x1 x2 x3 x4 xs0, word_6 c i arg1 harg1 arg2 harg2 arg3 harg3 arg4 harg4 arg5 harg5 arg6 harg6 arg7 harg7 arg8 harg8 arg9 harg9 arg10 harg10 arg11 harg11 x0 x1 x2 x3 x4 xs0, word_7 c i arg1 harg1 arg2 harg2 arg3 harg3 arg4 harg4 arg5 harg5 arg6 harg6 arg7 harg7 arg8 harg8 arg9 harg9 arg10 harg10 arg11 harg11 x0 x1 x2 x3 x4 xs0, x0_eq, x2_eq, x4_eq]

end Chain

end Cert.KernelIdeal.Body

end
-- ==== Proof.KernelTable.lean ====
/- The carried split table: what the first point's branch writes into it, and that every point therefore finds the same
   table; and what the eight stores into the second output add up to. -/
module

public import proofs.«01_k».proof.Proof.KernelStage
public import Idealize.ShloMosaic.Lib.WritesUnit

@[expose] public section

set_option maxRecDepth 16384

noncomputable section

namespace Cert.KernelIdeal.Body

open Idealize.ShloMosaic Idealize.ShloMosaic.TcCoe Idealize.ShloMosaic.Tactic
open Idealize.SL.Sem
open Cert.KernelIdeal.Gen

variable {F : FTy → Type} [FloatOps F]

/-! ## Eight slabs written one by one -/

section Slabs

variable {sg : RefSig} {κ : Kind} {sp : Space} {M N : ℕ} {e : EltTy} {Val : EltTy → Type}

/-- The piece that writes slab `q` of an array of eight. -/
def slab (inb : ∀ q (a : Fin 3), (![q % 8, 0, 0] : Fin 3 → ℕ) a + (![1, M, N] : Fin 3 → ℕ) a ≤ (![8, M, N] : Fin 3 → ℕ) a)
    (P : ℕ → (⟨3, ![1, M, N]⟩ : Shape).Idx → Val e) (q : ℕ) : View.Piece Val (⟨3, ![8, M, N]⟩ : Shape) e :=
  ⟨Rect.unit (s := (⟨3, ![8, M, N]⟩ : Shape)) ![q % 8, 0, 0] ![1, M, N] (inb q), P q⟩

/-- After slabs `ks` are written, an index of one of them reads that slab's contents. -/
theorem read_slabs (v : View sg κ sp (⟨3, ![8, M, N]⟩ : Shape) e) (f : v.ty.Contents Val)
    (inb : ∀ q (a : Fin 3), (![q % 8, 0, 0] : Fin 3 → ℕ) a + (![1, M, N] : Fin 3 → ℕ) a ≤ (![8, M, N] : Fin 3 → ℕ) a)
    (P : ℕ → (⟨3, ![1, M, N]⟩ : Shape).Idx → Val e) (y : (⟨3, ![8, M, N]⟩ : Shape).Idx) :
    ∀ ks : List ℕ, (∀ k ∈ ks, k < 8) → (y 0).val ∈ ks →
      v.read Val (v.writes Val f (ks.map (slab inb P))) y = P (y 0).val (ix3 0 (y 1) (y 2))
  | [], _, h => absurd h List.not_mem_nil
  | k :: ks, hk, h => by
    have hk8 : k % 8 = k := Nat.mod_eq_of_lt (hk k List.mem_cons_self)
    by_cases he : (y 0).val = k
    · rw [he]
      refine View.read_writes_cons_unit_of_mem v f (inb k) (P k) (ks.map (slab inb P)) y (ix3 0 (y 1) (y 2)) rfl fun a => ?_
      match a with
      | ⟨0, _⟩ => show (y 0).val = k % 8 + 0; omega
      | ⟨1, _⟩ => show (y 1).val = 0 + (y 1).val; omega
      | ⟨2, _⟩ => show (y 2).val = 0 + (y 2).val; omega
    · have hm : (y 0).val ∈ ks := (List.mem_cons.mp h).resolve_left he
      refine (View.read_writes_cons_unit_of_not_mem v f (inb k) (P k) (ks.map (slab inb P)) y rfl (0 : Fin 3) ?_).trans
        (read_slabs v f inb P y ks (fun j hj => hk j (List.mem_cons_of_mem _ hj)) hm)
      show (y 0).val < k % 8 ∨ k % 8 + 1 ≤ (y 0).val
      omega

/-- All eight, the last first. -/
theorem read_all_slabs (v : View sg κ sp (⟨3, ![8, M, N]⟩ : Shape) e) (f : v.ty.Contents Val)
    (inb : ∀ q (a : Fin 3), (![q % 8, 0, 0] : Fin 3 → ℕ) a + (![1, M, N] : Fin 3 → ℕ) a ≤ (![8, M, N] : Fin 3 → ℕ) a)
    (P : ℕ → (⟨3, ![1, M, N]⟩ : Shape).Idx → Val e) :
    v.read Val (v.writes Val f ([7, 6, 5, 4, 3, 2, 1, 0].map (slab inb P))) = fun y => P (y 0).val (ix3 0 (y 1) (y 2)) := by
  funext y
  have h : (y 0).val < 8 := (y 0).isLt
  refine read_slabs v f inb P y _ (by decide) ?_
  simp only [List.mem_cons, List.mem_nil_iff, or_false]
  omega

end Slabs

/-! ## The split table -/

/-- One codebook split in three summands, with the two index columns and the column of ones. -/
def splitBlock (x : Vec F S1x1024x32 .f32) : FVec F S1x1024x99 .bf16 :=
  let b : FVec F S1024x32 .f32 := shapeCast S1024x32 x shapeCasts_S1x1024x32_S1024x32
  let hi : FVec F S1024x32 .bf16 := truncf .bf16 b bitsLt_bf16_f32
  let rest : FVec F S1024x32 .f32 := subf b (extf .f32 hi bitsLt_bf16_f32)
  let mid : FVec F S1024x32 .bf16 := truncf .bf16 rest bitsLt_bf16_f32
  let lo : FVec F S1024x32 .bf16 := truncf .bf16 (subf rest (extf .f32 mid bitsLt_bf16_f32)) bitsLt_bf16_f32
  let k : IVec S1024x1 32 := iota .tc S1024x1 32 [0] iota_S1024x1_d0_w32
  shapeCast S1x1024x99
    (concatenate S1024x99 1
      [⟨S1024x32, hi⟩, ⟨S1024x32, mid⟩, ⟨S1024x32, lo⟩,
        ⟨S1024x1, (sitofp .bf16 (andi k (broadcast S1024x1 4294967264#32)) : FVec F S1024x1 .bf16)⟩,
        ⟨S1024x1, (sitofp .bf16 (andi k (broadcast S1024x1 31#32)) : FVec F S1024x1 .bf16)⟩,
        ⟨S1024x1, (broadcast S1024x1 (Scalar.ofBits .bf16 0x3F80#16) : FVec F S1024x1 .bf16)⟩]
      concatenates_S1024x32_S1024x32_S1024x32_S1024x1_S1024x1_S1024x1_S1024x99_d1) shapeCasts_S1024x99_S1x1024x99

/-- The split table of all the codebooks. -/
def splitTable (x : Vec F S8x1024x32 .f32) : Vec F S8x1024x99 .bf16 :=
  fun j => splitBlock (cbAt x (j 0).val) (ix3 0 (j 1) (j 2))

section Carried

variable (c : Dev nD) (i : grid0.Coords)
    (arg1 : Memref sig .tc .vmem S1024x32 .f32) (harg1 : arg1.IsWhole)
    (arg2 : Memref sig .tc .vmem S32x756 .f32) (harg2 : arg2.IsWhole)
    (arg3 : Memref sig .tc .vmem S8x32x1024 .f32) (harg3 : arg3.IsWhole)
    (arg4 : Memref sig .tc .vmem S8x1024x32 .f32) (harg4 : arg4.IsWhole)
    (arg5 : Memref sig .tc .vmem S8x1x1024 .f32) (harg5 : arg5.IsWhole)
    (arg6 : Memref sig .tc .vmem S1024x756 .f32) (harg6 : arg6.IsWhole)
    (arg7 : Memref sig .tc .vmem S8x1024x32 .f32) (harg7 : arg7.IsWhole)
    (arg8 : Memref sig .tc .vmem S1024x8 .i32) (harg8 : arg8.IsWhole)
    (arg9 : Memref sig .tc .vmem S8x1024x99 .bf16) (harg9 : arg9.IsWhole)
    (arg10 : Memref sig .tc .vmem S1024x32 .f32) (harg10 : arg10.IsWhole)
    (arg11 : Memref sig .tc .vmem S1024x1 .i32) (harg11 : arg11.IsWhole)
    (x0 : Vec F S1024x32 .f32) (x1 : Vec F S32x756 .f32) (x2 : Vec F S8x32x1024 .f32) (x3 : Vec F S8x1024x32 .f32) (x4 : Vec F S8x1x1024 .f32) (xs0 : Vec F S8x1024x99 .bf16)

/-- The first point's branch is taken. -/
def First (i : grid0.Coords) : Prop :=
  Scalar.cmpi .ne (Scalar.extui (Scalar.cmpi .eq (BitVec.ofNat 32 (i 0).val) 0#32)) 0#32 = 1#1

/-- When the branch is taken, the carried table is the split of the codebooks. -/
theorem carried_first (hc : First i) : carried c i arg1 harg1 arg2 harg2 arg3 harg3 arg4 harg4 arg5 harg5 arg6 harg6 arg7 harg7 arg8 harg8 arg9 harg9 arg10 harg10 arg11 harg11 x0 x1 x2 x3 x4 xs0 = splitTable x3 := by
  have hx : arg4.view.read (Elt F) (harg4.unread x3) = x3 := harg4.read_unread x3
  refine Eq.trans (congrArg (arg9.view.read (Elt F)) (dif_pos hc)) (Eq.trans ?_ (congrArg splitTable hx))
  exact read_all_slabs arg9.view (harg9.unread xs0) inb_tab (fun q => splitBlock (cbAt (arg4.view.read (Elt F) (harg4.unread x3)) q))

/-- When it is not, the table is as the point found it. -/
theorem carried_later (hc : ¬First i) : carried c i arg1 harg1 arg2 harg2 arg3 harg3 arg4 harg4 arg5 harg5 arg6 harg6 arg7 harg7 arg8 harg8 arg9 harg9 arg10 harg10 arg11 harg11 x0 x1 x2 x3 x4 xs0 = xs0 :=
  (congrArg (arg9.view.read (Elt F)) (dif_neg hc)).trans (harg9.read_unread xs0)

end Carried

/-- Eight codeword pieces, one per stage, make the second output's block. -/
theorem read_allq (v : View sig .tc .vmem S8x1024x32 .f32) (f : v.ty.Contents (Elt F))
    (x0 : Vec F S1024x32 .f32) (x2 : Vec F S8x32x1024 .f32) (x4 : Vec F S8x1x1024 .f32) (T : Vec F S8x1024x99 .bf16) :
    v.read (Elt F) (v.writes (Elt F) f [allqPiece (wordAt x0 x2 x4 T 7) 7, allqPiece (wordAt x0 x2 x4 T 6) 6, allqPiece (wordAt x0 x2 x4 T 5) 5, allqPiece (wordAt x0 x2 x4 T 4) 4, allqPiece (wordAt x0 x2 x4 T 3) 3, allqPiece (wordAt x0 x2 x4 T 2) 2, allqPiece (wordAt x0 x2 x4 T 1) 1, allqPiece (wordAt x0 x2 x4 T 0) 0])
      = allqBlock x0 x2 x4 T :=
  read_all_slabs v f inb_cb (fun q => shapeCast S1x1024x32 (wordAt x0 x2 x4 T q) shapeCasts_S1024x32_S1x1024x32)

end Cert.KernelIdeal.Body

end
-- ==== Proof.KernelFrame.lean ====
/- The kernel's launch: what each grid point leaves, the invariant carried from point to point, the body's triple at every
   point, and the run of the whole program: it terminates, leaves its arguments and counters as it found them, and leaves
   each output array at the blocks the points computed. -/
module

public import proofs.«01_k».proof.Proof.KernelTable
public import proofs.«01_k».proof.Proof.Gen.KernelIdeal.Frame
public import Idealize.ShloMosaic.Lib.Claim
public import Idealize.ShloMosaic.Lib.Pipeline.FrameBody
public import Idealize.ShloMosaic.Lib.Pipeline.FrameSuffix

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The branch that builds the split table is taken at the first point only. -/
theorem first_iff : ∀ t : Fin cfg0.N, First (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [First, e0]
    word_cmp
   : ∀ t : Fin grid0.N, First (grid0.coords t) ↔ t.val = 0)

/-- The staging memref of each window at point `t`, and that it is a whole buffer. -/
abbrev stg0 (t : Fin cfg0.N) : Memref sig .tc .vmem S1024x32 .f32 := win0_0.stage (cfg0.slots t 0)
abbrev stg1 (t : Fin cfg0.N) : Memref sig .tc .vmem S32x756 .f32 := win0_1.stage (cfg0.slots t 1)
abbrev stg2 (t : Fin cfg0.N) : Memref sig .tc .vmem S8x32x1024 .f32 := win0_2.stage (cfg0.slots t 2)
abbrev stg3 (t : Fin cfg0.N) : Memref sig .tc .vmem S8x1024x32 .f32 := win0_3.stage (cfg0.slots t 3)
abbrev stg4 (t : Fin cfg0.N) : Memref sig .tc .vmem S8x1x1024 .f32 := win0_4.stage (cfg0.slots t 4)
abbrev stg5 (t : Fin cfg0.N) : Memref sig .tc .vmem S1024x756 .f32 := win0_5.stage (cfg0.slots t 5)
abbrev stg6 (t : Fin cfg0.N) : Memref sig .tc .vmem S8x1024x32 .f32 := win0_6.stage (cfg0.slots t 6)
abbrev stg7 (t : Fin cfg0.N) : Memref sig .tc .vmem S1024x8 .i32 := win0_7.stage (cfg0.slots t 7)
abbrev hstg0 (t : Fin cfg0.N) : (stg0 t).IsWhole := hstage0_0 ((cfg0.slots t 0).cast nbuf0_0)
abbrev hstg1 (t : Fin cfg0.N) : (stg1 t).IsWhole := hstage0_1 ((cfg0.slots t 1).cast nbuf0_1)
abbrev hstg2 (t : Fin cfg0.N) : (stg2 t).IsWhole := hstage0_2 ((cfg0.slots t 2).cast nbuf0_2)
abbrev hstg3 (t : Fin cfg0.N) : (stg3 t).IsWhole := hstage0_3 ((cfg0.slots t 3).cast nbuf0_3)
abbrev hstg4 (t : Fin cfg0.N) : (stg4 t).IsWhole := hstage0_4 ((cfg0.slots t 4).cast nbuf0_4)
abbrev hstg5 (t : Fin cfg0.N) : (stg5 t).IsWhole := hstage0_5 ((cfg0.slots t 5).cast nbuf0_5)
abbrev hstg6 (t : Fin cfg0.N) : (stg6 t).IsWhole := hstage0_6 ((cfg0.slots t 6).cast nbuf0_6)
abbrev hstg7 (t : Fin cfg0.N) : (stg7 t).IsWhole := hstage0_7 ((cfg0.slots t 7).cast nbuf0_7)

/-- The scratch buffers: the carried split table, the codewords and the indices of the stage at hand. -/
abbrev tableM : Memref sig .tc .vmem S8x1024x99 .bf16 := Memref.whole cc0_scratch0
abbrev wordM : Memref sig .tc .vmem S1024x32 .f32 := Memref.whole cc0_scratch1
abbrev indexM : Memref sig .tc .vmem S1024x1 .i32 := Memref.whole cc0_scratch2

/-- What the launch hands the region: every scratch buffer at some contents and the generator register at some state. -/
theorem launched_eq (c : Dev nD) :
    (Pipeline.ΦA spec0 c : sProp 𝕄)
      = iprop(iprop((∃ d, owns (c : Thread nD τ) tableM fullShare d) ∗ (∃ d, owns (c : Thread nD τ) wordM fullShare d) ∗ (∃ d, owns (c : Thread nD τ) indexM fullShare d)) ∗ (∃ r, prngReg c r)) := by
  unfold Pipeline.ΦA; rw [scopedRest0_eq]; simp only [tableM, wordM, indexM, owns_whole]; try rfl

/-! ## The blocks and what the points leave -/

/-- The blocks the body loads at point `t`. -/
abbrev blk0 (c : Dev nD) (t : Fin cfg0.N) : Vec F S1024x32 .f32 := iblk m c 0 t
abbrev blk1 (c : Dev nD) (t : Fin cfg0.N) : Vec F S32x756 .f32 := iblk m c 1 t
abbrev blk2 (c : Dev nD) (t : Fin cfg0.N) : Vec F S8x32x1024 .f32 := iblk m c 2 t
abbrev blk3 (c : Dev nD) (t : Fin cfg0.N) : Vec F S8x1024x32 .f32 := iblk m c 3 t
abbrev blk4 (c : Dev nD) (t : Fin cfg0.N) : Vec F S8x1x1024 .f32 := iblk m c 4 t

/-- The codebooks' block is the same at every point. -/
theorem blk3_const (c : Dev nD) (t : Fin cfg0.N) : blk3 m c t = blk3 m c t0_0 := rfl

/-- The split table every point finds. -/
def table (c : Dev nD) : Vec F S8x1024x99 .bf16 := splitTable (blk3 m c t0_0)

/-- The invariant before position `n`: at first what the launch hands over; afterwards the split table in its scratch and
    anything in the two others. -/
def Inv (c : Dev nD) : ℕ → sProp 𝕄
  | 0 => Pipeline.ΦA spec0 c
  | _ + 1 => iprop(iprop(owns (c : Thread nD τ) tableM fullShare (table m c) ∗ (∃ d, owns (c : Thread nD τ) wordM fullShare d) ∗ (∃ d, owns (c : Thread nD τ) indexM fullShare d)) ∗ (∃ r, prngReg c r))

/-- Before a position that is not the first. -/
theorem Inv_pos (c : Dev nD) (n : ℕ) (hn : n ≠ 0) :
    Inv m c n = iprop(iprop(owns (c : Thread nD τ) tableM fullShare (table m c) ∗ (∃ d, owns (c : Thread nD τ) wordM fullShare d) ∗ (∃ d, owns (c : Thread nD τ) indexM fullShare d)) ∗ (∃ r, prngReg c r)) := by
  cases n with
  | zero => exact absurd rfl hn
  | succ n => rfl

/-- Before any position the split table's scratch holds something the point's run carries on as the split table. -/
theorem Inv_open (c : Dev nD) (t : Fin cfg0.N) :
    Inv m c t.val ⊢ iprop(∃ d : Vec F S8x1024x99 .bf16, ⌜¬First (grid0.coords t) → d = table m c⌝ ∗ owns (c : Thread nD τ) tableM fullShare d ∗ (∃ d, owns (c : Thread nD τ) wordM fullShare d) ∗ (∃ d, owns (c : Thread nD τ) indexM fullShare d) ∗ (∃ r, prngReg c r)) := by
  by_cases hz : t.val = 0
  · rw [hz]; unfold Inv; rw [launched_eq]
    iintro ⟨⟨⟨%d, H9⟩, H10, H11⟩, Hg⟩
    iexists d
    isplitr; · ipureintro; exact fun h => absurd ((first_iff t).mpr hz) h
    isplitl [H9]; · iexact H9
    isplitl [H10]; · iexact H10
    isplitl [H11]; · iexact H11
    iexact Hg
  · rw [Inv_pos m c _ hz]
    iintro ⟨⟨H9, H10, H11⟩, Hg⟩
    iexists _
    isplitr; · ipureintro; exact fun _ => rfl
    isplitl [H9]; · iexact H9
    isplitl [H10]; · iexact H10
    isplitl [H11]; · iexact H11
    iexact Hg

/-- The pipeline's proof data on core `c`: each array as the region finds it, each input's buffer left at its block, each
    output's at its block's formula. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (blk0 m c t) (blk1 m c t) (blk2 m c t) (blk4 m c t) (table m c)
    | ⟨6, _⟩ => allqBlock (blk0 m c t) (blk2 m c t) (blk4 m c t) (table m c)
    | ⟨7, _⟩ => idxBlock (blk0 m c t) (blk2 m c t) (blk4 m c t) (table m c)
  Φ t := Inv m c t.val
  q _ := fullShare
  owed _ := 0

/-- The data's arrays are the contents the region finds. -/
theorem A_eq (c : Dev nD) (w : Fin cfg0.W) : (dats m 0 c).A w = V m c (Pipeline.arrRef spec0 w) := by
  dsimp only [dats]

/-- What the body leaves in each window's buffer. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outBlock (blk0 m c t) (blk1 m c t) (blk2 m c t) (blk4 m c t) (table m c) := by dsimp only [dats]
theorem after_6 (c : Dev nD) (t : Fin cfg0.N) : (dats m 0 c).after 6 t = allqBlock (blk0 m c t) (blk2 m c t) (blk4 m c t) (table m c) := by dsimp only [dats]
theorem after_7 (c : Dev nD) (t : Fin cfg0.N) : (dats m 0 c).after 7 t = idxBlock (blk0 m c t) (blk2 m c t) (blk4 m c t) (table m c) := by dsimp only [dats]

/-- What the body finds in each input's buffer: its block. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t))

/-- The split table the point's run carries is the one every point finds. -/
theorem carried_table (c : Dev nD) (t : Fin cfg0.N) (d : Vec F S8x1024x99 .bf16) (hd : ¬First (grid0.coords t) → d = table m c) :
    carried c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) tableM (Memref.isWhole_whole _) wordM (Memref.isWhole_whole _) indexM (Memref.isWhole_whole _) (blk0 m c t) (blk1 m c t) (blk2 m c t) (blk3 m c t) (blk4 m c t) d = table m c := by
  by_cases h : First (grid0.coords t)
  · rw [carried_first c (grid0.coords t) _ _ _ _ _ _ _ _ _ _ _ _ _ _ _ _ _ _ _ _ _ _ _ _ _ _ _ _ h, blk3_const, table]
  · rw [carried_later c (grid0.coords t) _ _ _ _ _ _ _ _ _ _ _ _ _ _ _ _ _ _ _ _ _ _ _ _ _ _ _ _ h, hd h]

set_option maxHeartbeats 1600000 in
/-- The body's triple at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, after_5, after_6, after_7]
  rw [show (dats m 0 c).Φ t.succ = Inv m c (t.val + 1) from rfl, show (dats m 0 c).Φ t.castSucc = Inv m c t.val from rfl, Inv_pos m c (t.val + 1) (Nat.succ_ne_zero _)]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HI := (Inv_open m c t) $$ HI
  icases HI with ⟨%d, %hd, H9, H10, H11, Hg⟩
  have hT := carried_table m c t d hd
  iapply ((run c (grid0.coords t) (stg0 t) (hstg0 t) (stg1 t) (hstg1 t) (stg2 t) (hstg2 t) (stg3 t) (hstg3 t) (stg4 t) (hstg4 t) (stg5 t) (hstg5 t) (stg6 t) (hstg6 t) (stg7 t) (hstg7 t) tableM (Memref.isWhole_whole _) wordM (Memref.isWhole_whole _) indexM (Memref.isWhole_whole _) (blk0 m c t) (blk1 m c t) (blk2 m c t) (blk3 m c t) (blk4 m c t) d).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H9]; · iexact H9
  isplitl [H10]; · iexact H10
  isplitl [H11]; · iexact H11
  iintro ⟨H0, H1, H2, H3, H4, ⟨%e5, H5⟩, ⟨%e6, H6⟩, ⟨%e7, H7⟩, H9, H10, H11⟩
  isplitl [H9 H10 H11 Hg]
  · isplitl [H9 H10 H11]
    · isplitl [H9]
      · unfold owns; iexists _; isplitr
        swap; · iexact H9
        ipureintro; exact hT
      isplitl [H10]; · iexact H10
      iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; rw [run_out5, hT]; exact View.read_writes_full _ _ _ _ _
  isplitl [H6]
  · unfold owns; iexists _; isplitr
    swap; · iexact H6
    ipureintro; rw [run_out6, hT]; exact read_allq _ _ _ _ _ _
  unfold owns; iexists _; isplitr
  swap; · iexact H7
  ipureintro; rw [run_out7, hT]; exact View.read_writes_full _ _ _ _ _

/-- The body's table row at a point's slots is the body itself. -/
theorem body_row (t : Fin cfg0.N) :
    defs₀ (F := F) .tc cfg0.body (cfg0.bodyArgs t (cfg0.slots t)) = bodyAt0 t := by
  unfold defs₀; rw [Defs.onTc_tc]

/-- The obligation the launch asks of the body. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-- What the launch hands over is the invariant before the first point. -/
theorem hin (c : Dev nD) : Pipeline.ΦA spec0 c ⊢ (dats m 0 c).Φ 0 := by
  rw [show (dats m 0 c).Φ 0 = Pipeline.ΦA spec0 c from rfl]

/-- After the last point the invariant gives it back. -/
theorem hout (c : Dev nD) : (dats m 0 c).Φ (Fin.last cfg0.N) ⊢ Pipeline.ΦA spec0 c := by
  rw [show (dats m 0 c).Φ (Fin.last cfg0.N) = Inv m c cfg0.N from rfl,
    Inv_pos m c _ (by have : cfg0.N = 16 := N_0; omega), launched_eq]
  iintro ⟨⟨H9, H10, H11⟩, Hg⟩
  isplitl [H9 H10 H11]
  · isplitl [H9]; · iexists _; iexact H9
    isplitl [H10]; · iexact H10
    iexact H11
  iexact Hg

/-! ## The run -/

set_option backward.isDefEq.respectTransparency.types false in
set_option maxHeartbeats 800000 in
/-- Every execution of the program from zero counters ends with each array of the pipeline at what the points computed,
    every other buffer as the lines after the region leave it, and every counter at zero. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: every execution ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.KernelIdeal.Body

end
-- ==== Proof.ReferenceRun.lean ====
/- The reference's run: its straight line of host operations is the list `ops`, a prologue, one and the same stage eight
   times over different buffers, and an epilogue. Every buffer is written once, in order of its number, from buffers of
   smaller number, so at the end EVERY operation's equation holds of the final contents (`Ordered.settled`). -/
module

public import proofs.«01_k».proof.Defs
public import proofs.«01_k».proof.Proof.Gen.ReferenceIdeal
public import Idealize.ShloMosaic.Lib.StableHlo.Run

@[expose] public section

set_option maxRecDepth 16384

noncomputable section

namespace Cert.ReferenceIdeal.Line

open Idealize.ShloMosaic Idealize.ShloMosaic.TcCoe Idealize.ShloMosaic.StableHlo Idealize.SL.Sem
open Cert.ReferenceIdeal.Gen

variable {F : FTy → Type} [FloatOps F]

/-! ## Lines that write their buffers in order -/

/-- A buffer's number. -/
def rank (b : DevRef τ sig) : ℕ := b.idx.val

/-- The number of a reference's buffer. -/
abbrev num (r : Ref sig .tc) : ℕ := rank (Proc.devRef (τ := τ) .tc r)

/-- The operation writes buffer number `n` alone, from buffers of smaller number, and determines what it writes. -/
structure Settles (n : ℕ) (op : HloOp τ sig (Elt F)) : Prop where
  writes : ∀ b ∈ op.writes, rank b = n
  reads : ∀ V V' : Valuation τ sig (Elt F), (∀ b, rank b < n → V b = V' b) → ∀ b ∈ op.writes, op.result V b = op.result V' b
  bufs : op.bufs ⊆ tcRefs τ sig
  fresh : op.fresh = ∅

theorem Settles.nullary {n : ℕ} {y : Ref sig .tc} (v : y.ty.Contents (Elt F)) (hy) (h : num y = n) :
    Settles n (StableHlo.nullary (τ := τ) y v hy) where
  writes b hb := by rw [nullary_writes, Finset.mem_singleton] at hb; rw [hb]; exact h
  reads V V' _ b hb := by
    rw [nullary_writes, Finset.mem_singleton] at hb; subst hb; rw [nullary_result, nullary_result]
  bufs := nullary_bufs_sub _ _ _
  fresh := rfl

theorem Settles.unary {n : ℕ} {x y : Ref sig .tc} (f : x.ty.Contents (Elt F) → y.ty.Contents (Elt F)) (hx hy)
    (h : num y = n) (h₁ : num x < n) : Settles n (StableHlo.unary (τ := τ) x y f hx hy) where
  writes b hb := by rw [unary_writes, Finset.mem_singleton] at hb; rw [hb]; exact h
  reads V V' hV b hb := by
    rw [unary_writes, Finset.mem_singleton] at hb; subst hb; rw [unary_result, unary_result, hV _ h₁]
  bufs := unary_bufs_sub _ _ _ _ _
  fresh := rfl

theorem Settles.reshape {n : ℕ} {x y : Ref sig .tc} (he hn hx hy)
    (h : num y = n) (h₁ : num x < n) : Settles (F := F) n (StableHlo.reshape (τ := τ) x y he hn hx hy) where
  writes b hb := by rw [reshape_writes, Finset.mem_singleton] at hb; rw [hb]; exact h
  reads V V' hV b hb := by
    rw [reshape_writes, Finset.mem_singleton] at hb; subst hb; rw [reshape_result, reshape_result, hV _ h₁]
  bufs := reshape_bufs_sub _ _ _ _ _ _
  fresh := rfl

theorem Settles.binary {n : ℕ} {a b y : Ref sig .tc}
    (f : a.ty.Contents (Elt F) → b.ty.Contents (Elt F) → y.ty.Contents (Elt F)) (ha hb hy)
    (h : num y = n) (h₁ : num a < n) (h₂ : num b < n) : Settles n (StableHlo.binary (τ := τ) a b y f ha hb hy) where
  writes c hc := by rw [binary_writes, Finset.mem_singleton] at hc; rw [hc]; exact h
  reads V V' hV c hc := by
    rw [binary_writes, Finset.mem_singleton] at hc; subst hc; rw [binary_result, binary_result, hV _ h₁, hV _ h₂]
  bufs := binary_bufs_sub _ _ _ _ _ _ _
  fresh := rfl

theorem Settles.ternary {n : ℕ} {c a b y : Ref sig .tc}
    (f : c.ty.Contents (Elt F) → a.ty.Contents (Elt F) → b.ty.Contents (Elt F) → y.ty.Contents (Elt F)) (hc ha hb hy)
    (h : num y = n) (h₁ : num c < n) (h₂ : num a < n) (h₃ : num b < n) :
    Settles n (StableHlo.ternary (τ := τ) c a b y f hc ha hb hy) where
  writes d hd := by rw [ternary_writes, Finset.mem_singleton] at hd; rw [hd]; exact h
  reads V V' hV d hd := by
    rw [ternary_writes, Finset.mem_singleton] at hd; subst hd
    rw [ternary_result, ternary_result, hV _ h₁, hV _ h₂, hV _ h₃]
  bufs := ternary_bufs_sub _ _ _ _ _ _ _ _ _
  fresh := rfl

theorem Settles.quaternary {n : ℕ} {a b c e y : Ref sig .tc}
    (f : a.ty.Contents (Elt F) → b.ty.Contents (Elt F) → c.ty.Contents (Elt F) → e.ty.Contents (Elt F) → y.ty.Contents (Elt F))
    (ha hb hc he hy) (h : num y = n) (h₁ : num a < n) (h₂ : num b < n) (h₃ : num c < n) (h₄ : num e < n) :
    Settles n (StableHlo.quaternary (τ := τ) a b c e y f ha hb hc he hy) where
  writes d hd := by rw [quaternary_writes, Finset.mem_singleton] at hd; rw [hd]; exact h
  reads V V' hV d hd := by
    rw [quaternary_writes, Finset.mem_singleton] at hd; subst hd
    rw [quaternary_result, quaternary_result, hV _ h₁, hV _ h₂, hV _ h₃, hV _ h₄]
  bufs := quaternary_bufs_sub _ _ _ _ _ _ _ _ _ _ _
  fresh := rfl

theorem Settles.nary {n k : ℕ} {xs : Fin k → Ref sig .tc} {y : Ref sig .tc}
    (f : ((i : Fin k) → (xs i).ty.Contents (Elt F)) → y.ty.Contents (Elt F)) (hx hy)
    (h : num y = n) (h₁ : ∀ i, num (xs i) < n) : Settles n (StableHlo.nary (τ := τ) xs y f hx hy) where
  writes d hd := by rw [nary_writes, Finset.mem_singleton] at hd; rw [hd]; exact h
  reads V V' hV d hd := by
    rw [nary_writes, Finset.mem_singleton] at hd; subst hd
    rw [nary_result, nary_result]; exact congrArg f (funext fun i => hV _ (h₁ i))
  bufs := nary_bufs_sub _ _ _ _ _
  fresh := rfl

/-- The line's operations write the buffers numbered `n`, `n + 1`, … in order. -/
def Ordered : ℕ → List (HloOp τ sig (Elt F)) → Prop
  | _, [] => True
  | n, op :: l => Settles n op ∧ Ordered (n + 1) l

theorem Ordered.append : ∀ {n : ℕ} {l₁ l₂ : List (HloOp τ sig (Elt F))}, Ordered n l₁ → Ordered (n + l₁.length) l₂ →
    Ordered n (l₁ ++ l₂)
  | _, [], _, _, h₂ => h₂
  | n, _ :: l₁, l₂, h₁, h₂ => ⟨h₁.1, Ordered.append h₁.2 (by rw [List.length_cons, Nat.add_comm l₁.length 1, ← Nat.add_assoc] at h₂; exact h₂)⟩

/-- What the line writes nowhere keeps its contents. -/
theorem Ordered.after_of_lt : ∀ {n : ℕ} {l : List (HloOp τ sig (Elt F))}, Ordered n l → ∀ (V : Valuation τ sig (Elt F))
    (b : DevRef τ sig), rank b < n → after l V b = V b
  | _, [], _, _, _, _ => rfl
  | n, op :: l, h, V, b, hb => by
    rw [after_cons, h.2.after_of_lt _ b (Nat.lt_succ_of_lt hb)]
    exact HloOp.result_of_not_mem op V fun hm => absurd (h.1.writes b hm) (Nat.ne_of_lt hb)

/-- At the end of the line every operation's equation holds: applying it once more changes nothing. -/
theorem Ordered.settled : ∀ {n : ℕ} {l : List (HloOp τ sig (Elt F))}, Ordered n l → ∀ (V : Valuation τ sig (Elt F)),
    ∀ op ∈ l, op.result (after l V) = after l V
  | n, op :: l, h, V, o, ho => by
    rw [after_cons]
    rcases List.mem_cons.1 ho with rfl | ho
    · funext b
      by_cases hb : b ∈ o.writes
      · rw [h.2.after_of_lt _ b (by rw [h.1.writes b hb]; exact Nat.lt_succ_self n)]
        refine h.1.reads _ _ (fun c hc => ?_) b hb
        rw [h.2.after_of_lt _ c (Nat.lt_succ_of_lt hc)]
        exact HloOp.result_of_not_mem o V fun hm => absurd (h.1.writes c hm) (Nat.ne_of_lt hc)
      · exact HloOp.result_of_not_mem o _ hb
    · exact h.2.settled _ o ho

theorem Ordered.forall : ∀ {n : ℕ} {l : List (HloOp τ sig (Elt F))}, Ordered n l →
    ∀ op ∈ l, op.bufs ⊆ tcRefs τ sig ∧ op.fresh = ∅
  | _, _ :: _, h, o, ho => by
    rcases List.mem_cons.1 ho with rfl | ho
    · exact ⟨h.1.bufs, h.1.fresh⟩
    · exact h.2.forall o ho

/-! ## The buffers -/

/-- The buffer numbered `n`. -/
abbrev bufRef (n : Fin 431) : Ref sig .tc := ⟨.hbm, n, rfl⟩

/-- The buffer numbered `n`, at the type it has. -/
def buf (T : BufTy) (n : Fin 431) (h : (bufRef n).ty = T := by rfl) : TRef sig T := ⟨bufRef n, h, nofun, rfl⟩

/-- The number of stage `k`'s value `j`. -/
abbrev stageNum (k : Fin 8) (j : Fin 50) : Fin 431 := ⟨9 + 50 * k.val + j.val, by omega⟩

/-- Stage `k`'s value `j`. -/
def at_ (k : Fin 8) (T : BufTy) (j : Fin 50) (h : ∀ k, (bufRef (stageNum k j)).ty = T := by decide) : TRef sig T :=
  buf T (stageNum k j) (h k)

/-! ## A stage -/

/-- The stage's codebook is cut out of the array of all of them. -/
theorem slices (k : Fin 8) : S8x1024x32.Slices ![k.val, 0, 0] S1x1024x32 := by revert k; decide

namespace Stage

variable (k : Fin 8)

/-! The stage's values, named as the first stage's are in the program (those of its two calls `am_…` and `tk_…`). -/

abbrev v4 : TRef sig ⟨S1x1024x32, .f32⟩ := at_ k _ 0
abbrev v5 : TRef sig ⟨S1024x32, .f32⟩ := at_ k _ 1
abbrev v6 : TRef sig ⟨S8x2048x32, .f32⟩ := at_ k _ 2
abbrev cst_0 : TRef sig ⟨S_, .f32⟩ := at_ k _ 3
abbrev v7 : TRef sig ⟨S8x2048, .f32⟩ := at_ k _ 4
abbrev v8 : TRef sig ⟨S8x2048x1, .f32⟩ := at_ k _ 5
abbrev v9 : TRef sig ⟨S8x2048x1024, .f32⟩ := at_ k _ 6
abbrev cst_1 : TRef sig ⟨S_, .f32⟩ := at_ k _ 7
abbrev v10 : TRef sig ⟨S8x2048x1024, .f32⟩ := at_ k _ 8
abbrev v11 : TRef sig ⟨S8x2048x1024, .f32⟩ := at_ k _ 9
abbrev v12 : TRef sig ⟨S8x2048x1024, .f32⟩ := at_ k _ 10
abbrev v13 : TRef sig ⟨S8x2048x1024, .f32⟩ := at_ k _ 11
abbrev v14 : TRef sig ⟨S1024x32, .f32⟩ := at_ k _ 12
abbrev cst_2 : TRef sig ⟨S_, .f32⟩ := at_ k _ 13
abbrev v15 : TRef sig ⟨S1024, .f32⟩ := at_ k _ 14
abbrev v16 : TRef sig ⟨S1x1x1024, .f32⟩ := at_ k _ 15
abbrev v17 : TRef sig ⟨S8x2048x1024, .f32⟩ := at_ k _ 16
abbrev v18 : TRef sig ⟨S8x2048x1024, .f32⟩ := at_ k _ 17
abbrev am_v0 : TRef sig ⟨S8x2048x1024, .i32⟩ := at_ k _ 18
abbrev am_cst : TRef sig ⟨S_, .f32⟩ := at_ k _ 19
abbrev am_c : TRef sig ⟨S_, .i32⟩ := at_ k _ 20
abbrev am_v1_0 : TRef sig ⟨S8x2048, .f32⟩ := at_ k _ 21
abbrev v19 : TRef sig ⟨S8x2048, .i32⟩ := at_ k _ 22
abbrev tk_c : TRef sig ⟨S_, .i32⟩ := at_ k _ 23
abbrev tk_v0 : TRef sig ⟨S8x2048, .i32⟩ := at_ k _ 24
abbrev tk_v1 : TRef sig ⟨S8x2048, .i1⟩ := at_ k _ 25
abbrev tk_c_0 : TRef sig ⟨S_, .i32⟩ := at_ k _ 26
abbrev tk_v2 : TRef sig ⟨S8x2048, .i32⟩ := at_ k _ 27
abbrev tk_v3 : TRef sig ⟨S8x2048, .i32⟩ := at_ k _ 28
abbrev tk_v4 : TRef sig ⟨S8x2048, .i32⟩ := at_ k _ 29
abbrev tk_v5 : TRef sig ⟨S8x2048x1, .i32⟩ := at_ k _ 30
abbrev tk_c_1 : TRef sig ⟨S1, .i32⟩ := at_ k _ 31
abbrev tk_c_2 : TRef sig ⟨S_, .i32⟩ := at_ k _ 32
abbrev tk_v6 : TRef sig ⟨S8x2048x1, .i32⟩ := at_ k _ 33
abbrev tk_v7 : TRef sig ⟨S8x2048x1, .i1⟩ := at_ k _ 34
abbrev tk_v8 : TRef sig ⟨S1x1x1, .i32⟩ := at_ k _ 35
abbrev tk_v9 : TRef sig ⟨S8x2048x1, .i32⟩ := at_ k _ 36
abbrev tk_v10 : TRef sig ⟨S8x2048x1, .i1⟩ := at_ k _ 37
abbrev tk_v11 : TRef sig ⟨S8x2048x1, .i1⟩ := at_ k _ 38
abbrev tk_c_3 : TRef sig ⟨S_, .i1⟩ := at_ k _ 39
abbrev tk_v12 : TRef sig ⟨S8x2048, .i1⟩ := at_ k _ 40
abbrev tk_v13 : TRef sig ⟨S8x2048x32, .f32⟩ := at_ k _ 41
abbrev tk_v14 : TRef sig ⟨S8x2048x32, .i1⟩ := at_ k _ 42
abbrev tk_cst : TRef sig ⟨S_, .f32⟩ := at_ k _ 43
abbrev tk_v15 : TRef sig ⟨S8x2048x32, .f32⟩ := at_ k _ 44
abbrev v20 : TRef sig ⟨S8x2048x32, .f32⟩ := at_ k _ 45
abbrev v21 : TRef sig ⟨S8x2048x32, .f32⟩ := at_ k _ 46
abbrev v22 : TRef sig ⟨S8x2048x32, .f32⟩ := at_ k _ 47
abbrev v23 : TRef sig ⟨S8x2048x32, .f32⟩ := at_ k _ 48
abbrev v24 : TRef sig ⟨S8x2048x32, .f32⟩ := at_ k _ 49

end Stage

open Stage in
/-- The stage's operations, from the codebooks, the residual `R` and the sum of the words so far `Q`. -/
def stageOps (A3 : TRef sig ⟨S8x1024x32, .f32⟩) (R Q : TRef sig ⟨S8x2048x32, .f32⟩) (k : Fin 8) : List (HloOp τ sig (Elt F)) :=
  [ TRef.unary A3 (v4 k) ((extractStridedSlice S1x1024x32 ![k.val, 0, 0] · (slices k))),
    TRef.reshape (v4 k) (v5 k) rfl shapeCasts_S1x1024x32_S1024x32,
    TRef.binary R R (v6 k) mulf,
    TRef.nullary (cst_0 k) (constant S_ .f32 0x00000000#32),
    TRef.binary (v6 k) (cst_0 k) (v7 k) (fun x v => Host.reduceAdd x v reducesTo_S8x2048x32_S8x2048_d2 h_S_),
    TRef.unary (v7 k) (v8 k) (broadcastInDim S8x2048x1 ![0, 1] bcast_S8x2048_S8x2048x1_0_1),
    TRef.binary R (v5 k) (v9 k) (fun l r => Host.dotGeneral dot_S8x2048x32_S1024x32_S8x2048x1024_2_1_01_0_n_n none l r),
    TRef.nullary (cst_1 k) (constant S_ .f32 0x40000000#32),
    TRef.unary (cst_1 k) (v10 k) (broadcastInDim S8x2048x1024 ![] bcast_S_S8x2048x1024),
    TRef.binary (v10 k) (v9 k) (v11 k) mulf,
    TRef.unary (v8 k) (v12 k) (broadcastInDim S8x2048x1024 ![0, 1, 2] bcast_S8x2048x1_S8x2048x1024_0_1_2),
    TRef.binary (v12 k) (v11 k) (v13 k) subf,
    TRef.binary (v5 k) (v5 k) (v14 k) mulf,
    TRef.nullary (cst_2 k) (constant S_ .f32 0x00000000#32),
    TRef.binary (v14 k) (cst_2 k) (v15 k) (fun x v => Host.reduceAdd x v reducesTo_S1024x32_S1024_d1 h_S_),
    TRef.unary (v15 k) (v16 k) (broadcastInDim S1x1x1024 ![2] bcast_S1024_S1x1x1024_2),
    TRef.unary (v16 k) (v17 k) (broadcastInDim S8x2048x1024 ![0, 1, 2] bcast_S1x1x1024_S8x2048x1024_0_1_2),
    TRef.binary (v13 k) (v17 k) (v18 k) addf,
    TRef.nullary (am_v0 k) (iotaInDim S8x2048x1024 32 2),
    TRef.nullary (am_cst k) (constant S_ .f32 0x7F800000#32),
    TRef.nullary (am_c k) (constantI S_ 32 0#32),
    TRef.quaternary (v18 k) (am_v0 k) (am_cst k) (am_c k) (am_v1_0 k) (fun x y u v j => (Host.argReduce reducer_argmin_f32_i32 x y u v reducesTo_S8x2048x1024_S8x2048_d2 h_S_ j).1),
    TRef.quaternary (v18 k) (am_v0 k) (am_cst k) (am_c k) (v19 k) (fun x y u v j => (Host.argReduce reducer_argmin_f32_i32 x y u v reducesTo_S8x2048x1024_S8x2048_d2 h_S_ j).2),
    TRef.nullary (tk_c k) (constantI S_ 32 0#32),
    TRef.unary (tk_c k) (tk_v0 k) (broadcastInDim S8x2048 ![] bcast_S_S8x2048),
    TRef.binary (v19 k) (tk_v0 k) (tk_v1 k) (cmpi .slt),
    TRef.nullary (tk_c_0 k) (constantI S_ 32 1024#32),
    TRef.unary (tk_c_0 k) (tk_v2 k) (broadcastInDim S8x2048 ![] bcast_S_S8x2048),
    TRef.binary (v19 k) (tk_v2 k) (tk_v3 k) addi,
    TRef.ternary (tk_v1 k) (tk_v3 k) (v19 k) (tk_v4 k) select,
    TRef.unary (tk_v4 k) (tk_v5 k) (broadcastInDim S8x2048x1 ![0, 1] bcast_S8x2048_S8x2048x1_0_1),
    TRef.nullary (tk_c_1 k) (constantI S1 32 1023#32),
    TRef.nullary (tk_c_2 k) (constantI S_ 32 0#32),
    TRef.unary (tk_c_2 k) (tk_v6 k) (broadcastInDim S8x2048x1 ![] bcast_S_S8x2048x1),
    TRef.binary (tk_v5 k) (tk_v6 k) (tk_v7 k) (cmpi .sge),
    TRef.unary (tk_c_1 k) (tk_v8 k) (broadcastInDim S1x1x1 ![2] bcast_S1_S1x1x1_2),
    TRef.unary (tk_v8 k) (tk_v9 k) (broadcastInDim S8x2048x1 ![0, 1, 2] bcast_S1x1x1_S8x2048x1_0_1_2),
    TRef.binary (tk_v5 k) (tk_v9 k) (tk_v10 k) (cmpi .sle),
    TRef.binary (tk_v7 k) (tk_v10 k) (tk_v11 k) andi,
    TRef.nullary (tk_c_3 k) (constantI S_ 1 1#1),
    TRef.binary (tk_v11 k) (tk_c_3 k) (tk_v12 k) (fun x v => Host.reduce IntOp.andi x v reducesTo_S8x2048x1_S8x2048_d2 h_S_),
    TRef.binary (v5 k) (tk_v5 k) (tk_v13 k) (fun x i => Host.gather gather_S1024x32_S8x2048x1_S8x2048x32_2_0_n_n_0_2_132 x i),
    TRef.unary (tk_v12 k) (tk_v14 k) (broadcastInDim S8x2048x32 ![0, 1] bcast_S8x2048_S8x2048x32_0_1),
    TRef.nullary (tk_cst k) (constant S_ .f32 0x7FC00000#32),
    TRef.unary (tk_cst k) (tk_v15 k) (broadcastInDim S8x2048x32 ![] bcast_S_S8x2048x32),
    TRef.ternary (tk_v14 k) (tk_v13 k) (tk_v15 k) (v20 k) select,
    TRef.binary (v20 k) R (v21 k) subf,
    TRef.binary R (v21 k) (v22 k) addf,
    TRef.binary R (v22 k) (v23 k) subf,
    TRef.binary Q (v22 k) (v24 k) addf ]

/-- The arguments. -/
abbrev arg0 : TRef sig ⟨S8x2048x252x3, .f32⟩ := buf _ 0
abbrev arg1 : TRef sig ⟨S756x32, .f32⟩ := buf _ 1
abbrev arg2 : TRef sig ⟨S32x756, .f32⟩ := buf _ 2
abbrev arg3 : TRef sig ⟨S8x1024x32, .f32⟩ := buf _ 3

/-- The residual entering stage `k`: the projected input, then what the stage before leaves. -/
def resid : ℕ → TRef sig ⟨S8x2048x32, .f32⟩
  | 0 => buf _ 6
  | k + 1 => Stage.v23 (Fin.ofNat 8 k)

/-- The sum of the words before stage `k`: zero, then what the stage before leaves. -/
def total : ℕ → TRef sig ⟨S8x2048x32, .f32⟩
  | 0 => buf _ 8
  | k + 1 => Stage.v24 (Fin.ofNat 8 k)

/-- The stage numbered `k`. -/
abbrev stage (k : Fin 8) : List (HloOp τ sig (Elt F)) := stageOps arg3 (resid k.val) (total k.val) k

/-- The prologue: the input re-arranged and projected, and the zero the sum of the words starts from. -/
def prologue : List (HloOp τ sig (Elt F)) :=
  [ TRef.unary arg0 (buf ⟨S8x2048x3x252, .f32⟩ 4) (transpose S8x2048x3x252 [0, 1, 3, 2] · transposes_S8x2048x252x3_S8x2048x3x252_0_1_3_2),
    TRef.reshape (buf ⟨S8x2048x3x252, .f32⟩ 4) (buf ⟨S8x2048x756, .f32⟩ 5) rfl shapeCasts_S8x2048x3x252_S8x2048x756,
    TRef.binary (buf ⟨S8x2048x756, .f32⟩ 5) arg1 (resid 0) (fun l r => Host.dotGeneral dot_S8x2048x756_S756x32_S8x2048x32_2_0_01_1_n_n none l r),
    TRef.nullary (buf ⟨S_, .f32⟩ 7) (constant S_ .f32 0x00000000#32),
    TRef.unary (buf ⟨S_, .f32⟩ 7) (total 0) (broadcastInDim S8x2048x32 ![] bcast_S_S8x2048x32) ]

/-- The word of each stage with a leading axis of one, and its index with a trailing one. -/
abbrev wordUp (k : Fin 8) : TRef sig ⟨S1x8x2048x32, .f32⟩ := buf _ ⟨413 + k.val, by omega⟩ (by revert k; decide)
abbrev indexUp (k : Fin 8) : TRef sig ⟨S8x2048x1, .i32⟩ := buf _ ⟨422 + k.val, by omega⟩ (by revert k; decide)

/-- The epilogue: the sum of the words projected back and cut at zero, and the words and the indices side by side. -/
def epilogue : List (HloOp τ sig (Elt F)) :=
  [ TRef.binary (total 8) arg2 (buf ⟨S8x2048x756, .f32⟩ 409) (fun l r => Host.dotGeneral dot_S8x2048x32_S32x756_S8x2048x756_2_0_01_1_n_n none l r),
    TRef.nullary (buf ⟨S_, .f32⟩ 410) (constant S_ .f32 0x00000000#32),
    TRef.unary (buf ⟨S_, .f32⟩ 410) (buf ⟨S8x2048x756, .f32⟩ 411) (broadcastInDim S8x2048x756 ![] bcast_S_S8x2048x756),
    TRef.binary (buf ⟨S8x2048x756, .f32⟩ 409) (buf ⟨S8x2048x756, .f32⟩ 411) (buf ⟨S8x2048x756, .f32⟩ 412) maximumf ]
  ++ (List.finRange 8).map (fun k => TRef.unary (Stage.v22 k) (wordUp k) (broadcastInDim S1x8x2048x32 ![1, 2, 3] bcast_S8x2048x32_S1x8x2048x32_1_2_3))
  ++ [ TRef.nary wordUp (buf ⟨S8x8x2048x32, .f32⟩ 421) (fun u => concatenate S8x8x2048x32 0
        [⟨S1x8x2048x32, u 0⟩, ⟨S1x8x2048x32, u 1⟩, ⟨S1x8x2048x32, u 2⟩, ⟨S1x8x2048x32, u 3⟩, ⟨S1x8x2048x32, u 4⟩, ⟨S1x8x2048x32, u 5⟩, ⟨S1x8x2048x32, u 6⟩, ⟨S1x8x2048x32, u 7⟩]
        concatenates_S1x8x2048x32_S1x8x2048x32_S1x8x2048x32_S1x8x2048x32_S1x8x2048x32_S1x8x2048x32_S1x8x2048x32_S1x8x2048x32_S8x8x2048x32_d0) ]
  ++ (List.finRange 8).map (fun k => TRef.unary (Stage.v19 k) (indexUp k) (broadcastInDim S8x2048x1 ![0, 1] bcast_S8x2048_S8x2048x1_0_1))
  ++ [ TRef.nary indexUp (buf ⟨S8x2048x8, .i32⟩ 430) (fun u => concatenate S8x2048x8 2
        [⟨S8x2048x1, u 0⟩, ⟨S8x2048x1, u 1⟩, ⟨S8x2048x1, u 2⟩, ⟨S8x2048x1, u 3⟩, ⟨S8x2048x1, u 4⟩, ⟨S8x2048x1, u 5⟩, ⟨S8x2048x1, u 6⟩, ⟨S8x2048x1, u 7⟩]
        concatenates_S8x2048x1_S8x2048x1_S8x2048x1_S8x2048x1_S8x2048x1_S8x2048x1_S8x2048x1_S8x2048x1_S8x2048x8_d2) ]

/-- The whole line. -/
def ops : List (HloOp τ sig (Elt F)) :=
  prologue ++ ((List.finRange 8).flatMap stage ++ epilogue)

set_option maxHeartbeats 4000000 in
/-- The program's four windows are four pieces of that line. -/
theorem windows_eq (d : Dev nD) :
    main_part0 (F := F) d = seq (ops.take 112) ∧ main_part1 (F := F) d = seq ((ops.drop 112).take 116)
      ∧ main_part2 (F := F) d = seq (((ops.drop 112).drop 116).take 134)
      ∧ main_part3 (F := F) d = seq (((ops.drop 112).drop 116).drop 134) :=
  ⟨rfl, rfl, rfl, rfl⟩

/-- The program is that line. -/
theorem main_eq (d : Dev nD) : main (F := F) d = seq ops := by
  obtain ⟨h0, h1, h2, h3⟩ := windows_eq (F := F) d
  have e (l : List (HloOp τ sig (Elt F))) (n : ℕ) : seq (Λ := Pipeline.Sig Λ₀ (Fin 0) fun p => (pcfgs (F := F) p).Adm) (nD := nD) l
      = seq (l.take n) >>= fun _ => seq (l.drop n) := by
    rw [← seq_append, List.take_append_drop]
  rw [e ops 112, e (ops.drop 112) 116, e ((ops.drop 112).drop 116) 134, ← h0, ← h1, ← h2, ← h3]
  rfl

end Cert.ReferenceIdeal.Line
-- ==== Proof.ReferenceOrder.lean ====
/- The reference's line writes its buffers in order; what it leaves: the arguments as they were, the counters at zero, and
   every operation's equation. -/
module

public import proofs.«01_k».proof.Proof.ReferenceRun
public import Idealize.ShloMosaic.Lib.Quiescent

@[expose] public section

set_option maxRecDepth 16384

noncomputable section

namespace Cert.ReferenceIdeal.Line

open Idealize.ShloMosaic Idealize.ShloMosaic.TcCoe Idealize.ShloMosaic.StableHlo Idealize.SL.Sem
open Cert.ReferenceIdeal.Gen

variable {F : FTy → Type} [FloatOps F]

/-- `Ordered` counted from a base: the operations write the buffers `n + i`, `n + (i + 1)`, … in order. -/
def OrderedFrom (n : ℕ) : ℕ → List (HloOp τ sig (Elt F)) → Prop
  | _, [] => True
  | i, op :: l => Settles (n + i) op ∧ OrderedFrom n (i + 1) l

theorem OrderedFrom.ordered {n : ℕ} : ∀ {i : ℕ} {l : List (HloOp τ sig (Elt F))}, OrderedFrom n i l → Ordered (n + i) l
  | _, [], _ => trivial
  | _, _ :: _, h => ⟨h.1, h.2.ordered⟩

set_option maxHeartbeats 4000000 in
/-- A stage writes its fifty buffers in order. -/
theorem stage_ordered (k : Fin 8) : Ordered (F := F) (9 + 50 * k.val) (stage k) := by
  have hR : num (resid k.val).ref < 9 + 50 * k.val := by revert k; decide
  have hQ : num (total k.val).ref < 9 + 50 * k.val := by revert k; decide
  have hA : num arg3.ref < 9 + 50 * k.val := Nat.lt_of_lt_of_le (by decide) (Nat.le_add_right 9 _)
  have hs (T : BufTy) (j : Fin 50) (h) : num (at_ k T j h).ref = 9 + 50 * k.val + j.val := rfl
  refine OrderedFrom.ordered (i := 0) ?_
  show OrderedFrom _ 0 (stageOps arg3 (resid k.val) (total k.val) k)
  generalize resid k.val = R at hR ⊢
  generalize total k.val = Q at hQ ⊢
  generalize arg3 = A at hA ⊢
  rw [stageOps]
  repeat' first
    | exact trivial
    | refine And.intro ?_ ?_
    | refine Settles.nullary _ _ ?_
    | refine Settles.unary _ _ _ ?_ ?_
    | refine Settles.reshape _ _ _ _ ?_ ?_
    | refine Settles.binary _ _ _ _ ?_ ?_ ?_
    | refine Settles.ternary _ _ _ _ _ ?_ ?_ ?_ ?_
    | refine Settles.quaternary _ _ _ _ _ _ ?_ ?_ ?_ ?_ ?_
  all_goals first
    | exact hs _ _ _
    | exact (hs _ _ _).trans_lt (Nat.add_lt_add_left (by decide) _)
    | exact Nat.lt_of_lt_of_le hR (Nat.le_add_right _ _)
    | exact Nat.lt_of_lt_of_le hQ (Nat.le_add_right _ _)
    | exact Nat.lt_of_lt_of_le hA (Nat.le_add_right _ _)

theorem stages_ordered : ∀ (l : List (Fin 8)) (k : ℕ), l.map Fin.val = List.range' k l.length →
    Ordered (F := F) (9 + 50 * k) (l.flatMap stage)
  | [], _, _ => trivial
  | a :: l, k, h => by
    rw [List.map_cons, List.length_cons, List.range'_succ, List.cons.injEq] at h
    obtain ⟨rfl, h⟩ := h
    rw [List.flatMap_cons]
    exact (stage_ordered a).append (stages_ordered l (a.val + 1) h)

theorem prologue_ordered : Ordered (F := F) 4 prologue := by
  refine ⟨Settles.unary _ _ _ ?_ ?_, Settles.reshape _ _ _ _ ?_ ?_, Settles.binary _ _ _ _ ?_ ?_ ?_, Settles.nullary _ _ ?_,
    Settles.unary _ _ _ ?_ ?_, trivial⟩ <;> decide

/-- A family of operations over consecutive buffers. -/
theorem family_ordered (f : Fin 8 → HloOp τ sig (Elt F)) (n : ℕ) (hf : ∀ k : Fin 8, Settles (n + k.val) (f k)) :
    Ordered n ((List.finRange 8).map f) :=
  ⟨hf 0, hf 1, hf 2, hf 3, hf 4, hf 5, hf 6, hf 7, trivial⟩

theorem epilogue_ordered : Ordered (F := F) 409 epilogue := by
  refine Ordered.append (Ordered.append (Ordered.append (Ordered.append ?_ ?_) ?_) ?_) ?_
  · refine ⟨Settles.binary _ _ _ _ ?_ ?_ ?_, Settles.nullary _ _ ?_, Settles.unary _ _ _ ?_ ?_,
      Settles.binary _ _ _ _ ?_ ?_ ?_, trivial⟩ <;> decide
  · exact family_ordered _ 413 fun k => Settles.unary _ _ _ rfl (by revert k; decide : _ < 413 + k.val)
  · exact ⟨Settles.nary _ _ _ rfl fun i => (by revert i; decide : _ < 421), trivial⟩
  · exact family_ordered _ 422 fun k => Settles.unary _ _ _ rfl (by revert k; decide : _ < 422 + k.val)
  · exact ⟨Settles.nary _ _ _ rfl fun i => (by revert i; decide : _ < 430), trivial⟩

/-- The line writes the buffers 4 to 430 in order. -/
theorem ops_ordered : Ordered (F := F) 4 ops :=
  prologue_ordered.append ((stages_ordered _ 0 rfl).append epilogue_ordered)

variable (m : (ℓ : Loc nD τ sig) → Buf (Elt F) ℓ) (ρ : Dev nD → PrngReg)

/-- What the buffers hold at the end. -/
def last (d : Dev nD) : Valuation τ sig (Elt F) := after ops (launchContents m d)

/-- The reference runs to its end, its counters at zero, and leaves in every buffer what the line leaves there. -/
theorem run : θ_run defs (onTc (τ := τ) (main (F := F))) ⟨m, fun _ => 0, ρ⟩ fun r =>
    (∀ (d : Dev nD) (b : Ref sig .tc), r.2.mem ((d.tc : Thread nD τ).loc b) = last m d (Proc.devRef .tc b)) ∧ r.2.sem = fun _ => 0 :=
  (θ_run defs _ _).mono (fun r h => ⟨h, sem_eq_zero_of_no_sems rfl r.2⟩)
    (run_seq (by decide) (by decide) defs main (fun _ => ops) main_eq
      (fun _ => List.forall_iff_forall_mem.2 fun op h => (ops_ordered.forall op h).1) m ρ
      (fun _ op h => (ops_ordered.forall op h).2))

/-- The line leaves the arguments as they were. -/
theorem last_arg (d : Dev nD) (b : DevRef τ sig) (hb : rank b < 4) : last m d b = m (d, b) :=
  ops_ordered.after_of_lt _ b hb

end Cert.ReferenceIdeal.Line
-- ==== Proof.ReferenceStage.lean ====
/- What the reference leaves, as plain functions of its arguments: one stage's index and word, from the residual entering it
   and its codebook, and the three results from all the stages'. -/
module

public import proofs.«01_k».proof.Proof.ReferenceOrder

@[expose] public section

set_option maxRecDepth 16384

noncomputable section

namespace Cert.ReferenceIdeal.Line

open Idealize.ShloMosaic Idealize.ShloMosaic.TcCoe Idealize.ShloMosaic.StableHlo Idealize.SL.Sem
open Cert.ReferenceIdeal.Gen

variable {F : FTy → Type} [FloatOps F]

/-! ## Equations between contents -/

/-- The value a buffer holds. -/
def val {T : BufTy} (W : Valuation τ sig (Elt F)) (x : TRef sig T) : T.Contents (Elt F) := x.ofBuf (W (Proc.devRef .tc x.ref))

section
variable {T Tx Ta Tb Tc Ty : BufTy} {W : Valuation τ sig (Elt F)}

theorem val_nullary {y : TRef sig Ty} {v : Ty.Contents (Elt F)} (h : (TRef.nullary y v).result W = W) : val W y = v := by
  have e := congrFun h (Proc.devRef .tc y.ref)
  rw [nullary_result] at e
  rw [val, ← e, TRef.ofBuf_toBuf]

theorem val_unary {x : TRef sig Tx} {y : TRef sig Ty} {f : Tx.Contents (Elt F) → Ty.Contents (Elt F)}
    (h : (TRef.unary x y f).result W = W) : val W y = f (val W x) := by
  have e := congrFun h (Proc.devRef .tc y.ref)
  rw [unary_result] at e
  rw [val, ← e, TRef.ofBuf_toBuf, val]

theorem val_reshape {x : TRef sig Tx} {y : TRef sig Ty} {he : Tx.elt = Ty.elt} {hn : Tx.shape.ShapeCasts Ty.shape}
    (h : (TRef.reshape x y he hn).result W = W) : val W y = fun i => he ▸ shapeCast Ty.shape (val W x) hn i := by
  have e := congrFun h (Proc.devRef .tc y.ref)
  rw [reshape_result] at e
  obtain ⟨x, rfl, hx, hx'⟩ := x
  obtain ⟨y, rfl, hy, hy'⟩ := y
  exact e.symm

theorem val_binary {a : TRef sig Ta} {b : TRef sig Tb} {y : TRef sig Ty}
    {f : Ta.Contents (Elt F) → Tb.Contents (Elt F) → Ty.Contents (Elt F)}
    (h : (TRef.binary a b y f).result W = W) : val W y = f (val W a) (val W b) := by
  have e := congrFun h (Proc.devRef .tc y.ref)
  rw [binary_result] at e
  rw [val, ← e, TRef.ofBuf_toBuf, val, val]

theorem val_ternary {c : TRef sig Tc} {a : TRef sig Ta} {b : TRef sig Tb} {y : TRef sig Ty}
    {f : Tc.Contents (Elt F) → Ta.Contents (Elt F) → Tb.Contents (Elt F) → Ty.Contents (Elt F)}
    (h : (TRef.ternary c a b y f).result W = W) : val W y = f (val W c) (val W a) (val W b) := by
  have e := congrFun h (Proc.devRef .tc y.ref)
  rw [ternary_result] at e
  rw [val, ← e, TRef.ofBuf_toBuf, val, val, val]

theorem val_quaternary {a : TRef sig Ta} {b : TRef sig Tb} {c : TRef sig Tc} {x : TRef sig Tx} {y : TRef sig Ty}
    {f : Ta.Contents (Elt F) → Tb.Contents (Elt F) → Tc.Contents (Elt F) → Tx.Contents (Elt F) → Ty.Contents (Elt F)}
    (h : (TRef.quaternary a b c x y f).result W = W) : val W y = f (val W a) (val W b) (val W c) (val W x) := by
  have e := congrFun h (Proc.devRef .tc y.ref)
  rw [quaternary_result] at e
  rw [val, ← e, TRef.ofBuf_toBuf, val, val, val, val]

theorem val_nary {n : ℕ} {Ts : Fin n → BufTy} {xs : (k : Fin n) → TRef sig (Ts k)} {y : TRef sig Ty}
    {f : ((k : Fin n) → (Ts k).Contents (Elt F)) → Ty.Contents (Elt F)}
    (h : (TRef.nary xs y f).result W = W) : val W y = f fun k => val W (xs k) := by
  have e := congrFun h (Proc.devRef .tc y.ref)
  rw [nary_result] at e
  rw [val, ← e, TRef.ofBuf_toBuf]
  rfl

end

/-! ## One stage -/

/-- Stage `k`'s codebook. -/
def codebook (A : FVec F S8x1024x32 .f32) (k : Fin 8) : FVec F S1024x32 .f32 :=
  shapeCast S1024x32 (extractStridedSlice S1x1024x32 ![k.val, 0, 0] A (slices k)) shapeCasts_S1x1024x32_S1024x32

/-- The squared distances of the residual's rows from the codebook's, as the reference adds them up. -/
def distances (R : FVec F S8x2048x32 .f32) (C : FVec F S1024x32 .f32) : FVec F S8x2048x1024 .f32 :=
  addf
    (subf
      (broadcastInDim S8x2048x1024 ![0, 1, 2] bcast_S8x2048x1_S8x2048x1024_0_1_2
        (broadcastInDim S8x2048x1 ![0, 1] bcast_S8x2048_S8x2048x1_0_1
          (Host.reduceAdd (mulf R R) (constant S_ .f32 0x00000000#32) reducesTo_S8x2048x32_S8x2048_d2 h_S_)))
      (mulf (broadcastInDim S8x2048x1024 ![] bcast_S_S8x2048x1024 (constant S_ .f32 0x40000000#32))
        (Host.dotGeneral dot_S8x2048x32_S1024x32_S8x2048x1024_2_1_01_0_n_n none R C)))
    (broadcastInDim S8x2048x1024 ![0, 1, 2] bcast_S1x1x1024_S8x2048x1024_0_1_2
      (broadcastInDim S1x1x1024 ![2] bcast_S1024_S1x1x1024_2
        (Host.reduceAdd (mulf C C) (constant S_ .f32 0x00000000#32) reducesTo_S1024x32_S1024_d1 h_S_)))

/-- The index of each row's least distance. -/
def nearest (D : FVec F S8x2048x1024 .f32) : IVec S8x2048 32 := fun j =>
  (Host.argReduce reducer_argmin_f32_i32 D (iotaInDim S8x2048x1024 32 2) (constant S_ .f32 0x7F800000#32) (constantI S_ 32 0#32)
    reducesTo_S8x2048x1024_S8x2048_d2 h_S_ j).2

/-- The indices as the gather takes them: a negative one counted from the end, with a trailing axis of one. -/
def counted (I : IVec S8x2048 32) : IVec S8x2048x1 32 :=
  broadcastInDim S8x2048x1 ![0, 1] bcast_S8x2048_S8x2048x1_0_1
    (select (cmpi .slt I (broadcastInDim S8x2048 ![] bcast_S_S8x2048 (constantI S_ 32 0#32)))
      (addi I (broadcastInDim S8x2048 ![] bcast_S_S8x2048 (constantI S_ 32 1024#32))) I)

/-- Whether an index is within the codebook. -/
def within (J : IVec S8x2048x1 32) : IVec S8x2048 1 :=
  Host.reduce IntOp.andi
    (andi (cmpi .sge J (broadcastInDim S8x2048x1 ![] bcast_S_S8x2048x1 (constantI S_ 32 0#32)))
      (cmpi .sle J (broadcastInDim S8x2048x1 ![0, 1, 2] bcast_S1x1x1_S8x2048x1_0_1_2
        (broadcastInDim S1x1x1 ![2] bcast_S1_S1x1x1_2 (constantI S1 32 1023#32)))))
    (constantI S_ 1 1#1) reducesTo_S8x2048x1_S8x2048_d2 h_S_

/-- The codebook's rows at the indices. -/
def rowsAt (C : FVec F S1024x32 .f32) (I : IVec S8x2048 32) : FVec F S8x2048x32 .f32 :=
  select (broadcastInDim S8x2048x32 ![0, 1] bcast_S8x2048_S8x2048x32_0_1 (within (counted I)))
    (Host.gather gather_S1024x32_S8x2048x1_S8x2048x32_2_0_n_n_0_2_132 C (counted I))
    (broadcastInDim S8x2048x32 ![] bcast_S_S8x2048x32 (constant S_ .f32 0x7FC00000#32))

/-- The stage's word: the residual plus the difference of the picked row and the residual. -/
def stageWord (R : FVec F S8x2048x32 .f32) (C : FVec F S1024x32 .f32) : FVec F S8x2048x32 .f32 :=
  addf R (subf (rowsAt C (nearest (distances R C))) R)

open Stage in
/-- Where every operation's equation holds, a stage's index, word, new residual and new sum are these functions of what
    enters it. -/
theorem stage_values {W : Valuation τ sig (Elt F)} {A : TRef sig ⟨S8x1024x32, .f32⟩} {R Q : TRef sig ⟨S8x2048x32, .f32⟩}
    {k : Fin 8} (h : ∀ op ∈ stageOps A R Q k, op.result W = W) :
    val W (v19 k) = nearest (distances (val W R) (codebook (val W A) k))
      ∧ val W (v22 k) = stageWord (val W R) (codebook (val W A) k)
      ∧ val W (v23 k) = subf (val W R) (stageWord (val W R) (codebook (val W A) k))
      ∧ val W (v24 k) = addf (val W Q) (stageWord (val W R) (codebook (val W A) k)) := by
  simp only [stageOps, List.forall_mem_cons] at h
  obtain ⟨h4, h5, h6, hc0, h7, h8, h9, hc1, h10, h11, h12, h13, h14, hc2, h15, h16, h17, h18, a0, a1, a2, a3, h19,
    t0, t1, t2, t3, t4, t5, t6, t7, t8, t9, t10, t11, t12, t13, t14, t15, t16, t17, t18, t19, t20, t21, h20, h21, h22, h23, h24, -⟩ := h
  have hC : val W (v5 k) = codebook (val W A) k := by rw [val_reshape h5, val_unary h4]; rfl
  have hD : val W (v18 k) = distances (val W R) (codebook (val W A) k) := by
    rw [val_binary h18, val_binary h13, val_unary h12, val_unary h8, val_binary h7, val_nullary hc0, val_binary h6,
      val_binary h11, val_unary h10, val_nullary hc1, val_binary h9, val_unary h17, val_unary h16, val_binary h15,
      val_nullary hc2, val_binary h14, hC]
    rfl
  have hI : val W (v19 k) = nearest (distances (val W R) (codebook (val W A) k)) := by
    rw [val_quaternary h19, hD, val_nullary a0, val_nullary a1, val_nullary a2]; rfl
  have hJ : val W (tk_v5 k) = counted (val W (v19 k)) := by
    rw [val_unary t7, val_ternary t6, val_binary t2, val_unary t1, val_nullary t0, val_binary t5, val_unary t4, val_nullary t3]
    rfl
  have hB : val W (tk_v12 k) = within (counted (val W (v19 k))) := by
    rw [val_binary t17, val_nullary t16, val_binary t15, val_binary t11, val_unary t10, val_nullary t9, val_binary t14,
      val_unary t13, val_unary t12, val_nullary t8, hJ]
    rfl
  have hT : val W (v20 k) = rowsAt (codebook (val W A) k) (val W (v19 k)) := by
    rw [val_ternary h20, val_unary t19, hB, val_binary t18, hC, hJ, val_unary t21, val_nullary t20]; rfl
  have hW : val W (v22 k) = stageWord (val W R) (codebook (val W A) k) := by
    rw [val_binary h22, val_binary h21, hT, hI]; rfl
  exact ⟨hI, hW, by rw [val_binary h23, hW], by rw [val_binary h24, hW]⟩

/-! ## All stages -/

/-- The input re-arranged and projected. -/
def projected (X : FVec F S8x2048x252x3 .f32) (Wi : FVec F S756x32 .f32) : FVec F S8x2048x32 .f32 :=
  Host.dotGeneral dot_S8x2048x756_S756x32_S8x2048x32_2_0_01_1_n_n none
    (shapeCast S8x2048x756 (transpose S8x2048x3x252 [0, 1, 3, 2] X transposes_S8x2048x252x3_S8x2048x3x252_0_1_3_2)
      shapeCasts_S8x2048x3x252_S8x2048x756) Wi

variable (X : FVec F S8x2048x252x3 .f32) (Wi : FVec F S756x32 .f32) (A : FVec F S8x1024x32 .f32)

/-- The residual entering stage `k`. -/
def residual : ℕ → FVec F S8x2048x32 .f32
  | 0 => projected X Wi
  | k + 1 => subf (residual k) (stageWord (residual k) (codebook A (Fin.ofNat 8 k)))

/-- Stage `k`'s word. -/
def word (k : Fin 8) : FVec F S8x2048x32 .f32 := stageWord (residual X Wi A k.val) (codebook A k)

/-- Stage `k`'s index. -/
def index (k : Fin 8) : IVec S8x2048 32 := nearest (distances (residual X Wi A k.val) (codebook A k))

/-- The sum of the words of the stages before `k`. -/
def wordSum : ℕ → FVec F S8x2048x32 .f32
  | 0 => broadcastInDim S8x2048x32 ![] bcast_S_S8x2048x32 (constant S_ .f32 0x00000000#32)
  | k + 1 => addf (wordSum k) (word X Wi A (Fin.ofNat 8 k))

/-- The first result: the sum of the words projected back and cut at zero. -/
def refOut (Wo : FVec F S32x756 .f32) : FVec F S8x2048x756 .f32 :=
  maximumf (Host.dotGeneral dot_S8x2048x32_S32x756_S8x2048x756_2_0_01_1_n_n none (wordSum X Wi A 8) Wo)
    (broadcastInDim S8x2048x756 ![] bcast_S_S8x2048x756 (constant S_ .f32 0x00000000#32))

/-- The second result: every stage's word. -/
def refWords : FVec F S8x8x2048x32 .f32 :=
  let u (k : Fin 8) : FVec F S1x8x2048x32 .f32 := broadcastInDim S1x8x2048x32 ![1, 2, 3] bcast_S8x2048x32_S1x8x2048x32_1_2_3 (word X Wi A k)
  concatenate S8x8x2048x32 0
    [⟨S1x8x2048x32, u 0⟩, ⟨S1x8x2048x32, u 1⟩, ⟨S1x8x2048x32, u 2⟩, ⟨S1x8x2048x32, u 3⟩, ⟨S1x8x2048x32, u 4⟩, ⟨S1x8x2048x32, u 5⟩, ⟨S1x8x2048x32, u 6⟩, ⟨S1x8x2048x32, u 7⟩]
    concatenates_S1x8x2048x32_S1x8x2048x32_S1x8x2048x32_S1x8x2048x32_S1x8x2048x32_S1x8x2048x32_S1x8x2048x32_S1x8x2048x32_S8x8x2048x32_d0

/-- The third result: every stage's index. -/
def refIndices : IVec S8x2048x8 32 :=
  let u (k : Fin 8) : IVec S8x2048x1 32 := broadcastInDim S8x2048x1 ![0, 1] bcast_S8x2048_S8x2048x1_0_1 (index X Wi A k)
  concatenate S8x2048x8 2
    [⟨S8x2048x1, u 0⟩, ⟨S8x2048x1, u 1⟩, ⟨S8x2048x1, u 2⟩, ⟨S8x2048x1, u 3⟩, ⟨S8x2048x1, u 4⟩, ⟨S8x2048x1, u 5⟩, ⟨S8x2048x1, u 6⟩, ⟨S8x2048x1, u 7⟩]
    concatenates_S8x2048x1_S8x2048x1_S8x2048x1_S8x2048x1_S8x2048x1_S8x2048x1_S8x2048x1_S8x2048x1_S8x2048x8_d2

section
variable {W : Valuation τ sig (Elt F)} (h : ∀ op ∈ ops, op.result W = W)
include h

theorem prologue_holds : ∀ op ∈ prologue, op.result W = W := fun op ho => h op (List.mem_append_left _ ho)
theorem stages_hold (k : Fin 8) : ∀ op ∈ stage k, op.result W = W := fun op ho =>
  h op (List.mem_append_right _ (List.mem_append_left _ (List.mem_flatMap.2 ⟨k, List.mem_finRange k, ho⟩)))
theorem epilogue_holds : ∀ op ∈ epilogue, op.result W = W := fun op ho =>
  h op (List.mem_append_right _ (List.mem_append_right _ ho))

/-- The residuals and sums the line leaves. -/
theorem chain_values : ∀ k ≤ 8, val W (resid k) = residual (val W arg0) (val W arg1) (val W arg3) k
    ∧ val W (total k) = wordSum (val W arg0) (val W arg1) (val W arg3) k
  | 0, _ => by
    have e := prologue_holds h
    simp only [prologue, List.forall_mem_cons] at e
    obtain ⟨e0, e1, e2, e3, e4, -⟩ := e
    exact ⟨by rw [val_binary e2, val_reshape e1, val_unary e0]; rfl, by rw [val_unary e4, val_nullary e3]; rfl⟩
  | k + 1, hk => by
    obtain ⟨hr, hq⟩ := chain_values k (Nat.le_of_succ_le hk)
    have hv : (Fin.ofNat 8 k).val = k := Nat.mod_eq_of_lt hk
    have e := stage_values (stages_hold h (Fin.ofNat 8 k))
    rw [hv, hr, hq] at e
    refine ⟨e.2.2.1, e.2.2.2.trans ?_⟩
    show _ = addf _ (stageWord (residual _ _ _ (Fin.ofNat 8 k).val) _)
    rw [hv]

/-- A stage's index and word, at the end of the line. -/
theorem stage_results (k : Fin 8) : val W (Stage.v19 k) = index (val W arg0) (val W arg1) (val W arg3) k
    ∧ val W (Stage.v22 k) = word (val W arg0) (val W arg1) (val W arg3) k := by
  have e := stage_values (stages_hold h k)
  rw [(chain_values h k.val (Nat.le_of_lt k.isLt)).1] at e
  exact ⟨e.1, e.2.1⟩

/-- The three results, at the end of the line. -/
theorem results : val W (buf ⟨S8x2048x756, .f32⟩ 412) = refOut (val W arg0) (val W arg1) (val W arg3) (val W arg2)
    ∧ val W (buf ⟨S8x8x2048x32, .f32⟩ 421) = refWords (val W arg0) (val W arg1) (val W arg3)
    ∧ val W (buf ⟨S8x2048x8, .i32⟩ 430) = refIndices (val W arg0) (val W arg1) (val W arg3) := by
  have e := epilogue_holds h
  simp only [epilogue, List.forall_mem_append, List.forall_mem_cons, List.forall_mem_map] at e
  obtain ⟨⟨⟨⟨⟨e0, e1, e2, e3, -⟩, ew⟩, e4, -⟩, ei⟩, e5, -⟩ := e
  refine ⟨?_, ?_, ?_⟩
  · rw [val_binary e3, val_binary e0, val_unary e2, val_nullary e1, (chain_values h 8 le_rfl).2]; rfl
  · have eu : (fun k => val W (wordUp k)) = fun k => broadcastInDim S1x8x2048x32 ![1, 2, 3] bcast_S8x2048x32_S1x8x2048x32_1_2_3 (word (val W arg0) (val W arg1) (val W arg3) k) :=
      funext fun k => by rw [val_unary (ew k (List.mem_finRange k)), (stage_results h k).2]
    rw [val_nary e4, eu]; rfl
  · have eu : (fun k => val W (indexUp k)) = fun k => broadcastInDim S8x2048x1 ![0, 1] bcast_S8x2048_S8x2048x1_0_1 (index (val W arg0) (val W arg1) (val W arg3) k) :=
      funext fun k => by rw [val_unary (ei k (List.mem_finRange k)), (stage_results h k).1]
    rw [val_nary e5, eu]; rfl

end

variable (m : (ℓ : Loc nD τ sig) → Buf (Elt F) ℓ) (ρ : Dev nD → PrngReg)

set_option maxHeartbeats 4000000 in
/-- What the reference leaves: its three results, functions of its arguments; its arguments as they were; its counters at
    zero. -/
theorem run_values : θ_run defs (onTc (τ := τ) (main (F := F))) ⟨m, fun _ => 0, ρ⟩ fun r =>
    (∀ c : Dev nD,
      r.2.mem ((c.tc : Thread nD τ).loc main_v173) = refOut (m ((c.tc : Thread nD τ).loc main_arg0)) (m ((c.tc : Thread nD τ).loc main_arg1)) (m ((c.tc : Thread nD τ).loc main_arg3)) (m ((c.tc : Thread nD τ).loc main_arg2))
      ∧ r.2.mem ((c.tc : Thread nD τ).loc main_v182) = refWords (m ((c.tc : Thread nD τ).loc main_arg0)) (m ((c.tc : Thread nD τ).loc main_arg1)) (m ((c.tc : Thread nD τ).loc main_arg3))
      ∧ r.2.mem ((c.tc : Thread nD τ).loc main_v191) = refIndices (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0 := by
  refine (θ_run defs _ _).mono (fun r h => ⟨fun c => ?_, h.2⟩) (run m ρ)
  have a0 := last_arg m c (Proc.devRef .tc main_arg0) (by decide)
  have a1 := last_arg m c (Proc.devRef .tc main_arg1) (by decide)
  have a2 := last_arg m c (Proc.devRef .tc main_arg2) (by decide)
  have a3 := last_arg m c (Proc.devRef .tc main_arg3) (by decide)
  obtain ⟨r0, r1, r2⟩ := results (ops_ordered.settled (launchContents m c))
  have b0 : val (after ops (launchContents m c)) arg0 = m ((c.tc : Thread nD τ).loc main_arg0) := a0
  have b1 : val (after ops (launchContents m c)) arg1 = m ((c.tc : Thread nD τ).loc main_arg1) := a1
  have b2 : val (after ops (launchContents m c)) arg2 = m ((c.tc : Thread nD τ).loc main_arg2) := a2
  have b3 : val (after ops (launchContents m c)) arg3 = m ((c.tc : Thread nD τ).loc main_arg3) := a3
  rw [b0, b1, b2, b3] at r0
  rw [b0, b1, b3] at r1 r2
  exact ⟨(h.1 c main_v173).trans r0, (h.1 c main_v182).trans r1, (h.1 c main_v191).trans r2, (h.1 c main_arg0).trans a0,
    (h.1 c main_arg1).trans a1, (h.1 c main_arg2).trans a2, (h.1 c main_arg3).trans a3⟩

end Cert.ReferenceIdeal.Line
-- ==== Proof.Nearest.lean ====
/- The mathematics both programs share, over the extended reals: the least index at which a row attains its least entry, the
   distances of one vector to a codebook's words, and what is left of a vector stage by stage as the nearest words are taken
   off it. -/
module

public import Idealize.ShloMosaic.Lib.Pointwise
public import Idealize.ShloMosaic.Lib.IdealHost
public import Idealize.ShloMosaic.PureOps.Ideal.Laws

@[expose] public section

noncomputable section

namespace Cert.Residual

open Idealize.ShloMosaic
open scoped BigOperators

/-! ## The nearest -/

/-- The indices at which `d` attains its least entry. -/
def leasts (d : Fin 1024 → EReal) : Finset (Fin 1024) := Finset.univ.filter fun j => ∀ k, d j ≤ d k

theorem leasts_nonempty (d : Fin 1024 → EReal) : (leasts d).Nonempty := by
  obtain ⟨j, -, hj⟩ := Finset.exists_min_image Finset.univ d ⟨0, Finset.mem_univ _⟩
  exact ⟨j, Finset.mem_filter.2 ⟨Finset.mem_univ _, fun k => hj k (Finset.mem_univ _)⟩⟩

/-- The least of them. -/
def near (d : Fin 1024 → EReal) : Fin 1024 := (leasts d).min' (leasts_nonempty d)

theorem near_le (d : Fin 1024 → EReal) (k : Fin 1024) : d (near d) ≤ d k :=
  (Finset.mem_filter.1 ((leasts d).min'_mem (leasts_nonempty d))).2 k

theorem near_first (d : Fin 1024 → EReal) {j : Fin 1024} (h : ∀ k, d j ≤ d k) : near d ≤ j :=
  (leasts d).min'_le j (Finset.mem_filter.2 ⟨Finset.mem_univ _, h⟩)

/-- The nearest is the one index that beats every other, by its entry or, at equal entries, by its place. -/
theorem near_eq (d : Fin 1024 → EReal) {j : Fin 1024} (h : ∀ k, d j < d k ∨ d j = d k ∧ j ≤ k) : near d = j := by
  have hj : ∀ k, d j ≤ d k := fun k => (h k).elim le_of_lt fun e => le_of_eq e.1
  refine le_antisymm (near_first d hj) ?_
  rcases h (near d) with hlt | ⟨-, hle⟩
  · exact absurd (near_le d j) (not_le.2 hlt)
  · exact hle

/-- The fold of `min` over a row is its entry at the nearest. -/
theorem fold_min_eq (d : Fin 1024 → EReal) : Finset.fold min ⊤ d Finset.univ = d (near d) := by
  refine le_antisymm ?_ (Finset.le_fold_min (d (near d)) |>.2 ⟨le_top, fun k _ => near_le d k⟩)
  exact Finset.fold_min_le (d (near d)) |>.2 (Or.inr ⟨near d, Finset.mem_univ _, le_rfl⟩)

/-! ## Reals among the extended reals -/

/-- Neither infinity. -/
def IsReal (x : EReal) : Prop := ∃ r : ℝ, x = r

theorem IsReal.add {x y : EReal} : IsReal x → IsReal y → IsReal (x + y) := fun ⟨a, ha⟩ ⟨b, hb⟩ => ⟨a + b, by rw [ha, hb, EReal.coe_add]⟩
theorem IsReal.sub {x y : EReal} : IsReal x → IsReal y → IsReal (x - y) := fun ⟨a, ha⟩ ⟨b, hb⟩ => ⟨a - b, by rw [ha, hb, EReal.coe_sub]⟩
theorem IsReal.mul {x y : EReal} : IsReal x → IsReal y → IsReal (x * y) := fun ⟨a, ha⟩ ⟨b, hb⟩ => ⟨a * b, by rw [ha, hb, EReal.coe_mul]⟩
theorem IsReal.zero : IsReal 0 := ⟨0, rfl⟩
theorem IsReal.sum {ι : Type} (s : Finset ι) {f : ι → EReal} (h : ∀ i, IsReal (f i)) : IsReal (∑ i ∈ s, f i) := by
  classical
  induction s using Finset.induction_on with
  | empty => exact IsReal.zero
  | insert a s ha ih => rw [Finset.sum_insert ha]; exact (h a).add ih

theorem IsReal.sub_self {x : EReal} : IsReal x → x - x = 0 := fun ⟨a, ha⟩ => by
  rw [ha, ← EReal.coe_sub, _root_.sub_self, EReal.coe_zero]

/-- Going to `y` by way of the difference. -/
theorem IsReal.add_sub {x y : EReal} : IsReal x → IsReal y → x + (y - x) = y := fun ⟨a, ha⟩ ⟨b, hb⟩ => by
  rw [ha, hb, ← EReal.coe_sub, ← EReal.coe_add, add_sub_cancel]

/-! ## The stages -/

/-- The squared distance of `r` to word `j` of `C`, in the order in which both programs add it up. -/
def sqDist (r : Fin 32 → EReal) (C : Fin 1024 → Fin 32 → EReal) (j : Fin 1024) : EReal :=
  ∑ x, r x * r x - Ideal.ofBits .f32 0x40000000#32 * ∑ x, r x * C j x + ∑ x, C j x * C j x

variable (r : Fin 32 → EReal) (C : ℕ → Fin 1024 → Fin 32 → EReal)

/-- What is left of `r` before stage `k`. -/
def left : ℕ → Fin 32 → EReal
  | 0 => r
  | k + 1 => fun e => left k e - C k (near (sqDist (left k) (C k))) e

/-- The word stage `k` takes. -/
def chosen (k : ℕ) : Fin 1024 := near (sqDist (left r C k) (C k))

/-- The sum of the words taken before stage `k`. -/
def taken : ℕ → Fin 32 → EReal
  | 0 => fun _ => 0
  | k + 1 => fun e => taken k e + C k (chosen r C k) e

theorem left_succ (k : ℕ) (e : Fin 32) : left r C (k + 1) e = left r C k e - C k (chosen r C k) e := rfl
theorem taken_succ (k : ℕ) (e : Fin 32) : taken r C (k + 1) e = taken r C k e + C k (chosen r C k) e := rfl

theorem left_real (hr : ∀ e, IsReal (r e)) (hC : ∀ k j e, IsReal (C k j e)) : ∀ k e, IsReal (left r C k e)
  | 0, e => hr e
  | k + 1, e => (left_real hr hC k e).sub (hC _ _ _)

end Cert.Residual

end
-- ==== Proof.KernelMath.lean ====
/- What one stage of the kernel computes over the extended reals: the least index at which a row of distances is least, and
   that codeword; whether or not some row of the tile has a tie. -/
module

public import proofs.«01_k».proof.Proof.KernelTable
public import proofs.«01_k».proof.Proof.Nearest

@[expose] public section

set_option maxRecDepth 16384

noncomputable section

namespace Cert.KernelIdeal.Body

open Idealize.ShloMosaic Cert.KernelIdeal.Gen Cert.Residual
open scoped BigOperators

/-! ## Words -/

theorem one_or_zero (b : BitVec 1) : b = 1#1 ∨ b = 0#1 := by
  revert b; decide

/-- The least of a set of words, read as integers. -/
theorem toInt_fold_minsi {ι : Type} [DecidableEq ι] (s : Finset ι) (b : BitVec 32) (f : ι → BitVec 32) :
    (s.fold IntOp.minsi b f).toInt = s.fold min b.toInt fun i => (f i).toInt := by
  refine (Finset.fold_hom (op := IntOp.minsi) (op' := min) (m := BitVec.toInt) fun x y => ?_).symm
  unfold IntOp.minsi
  split
  · next h => exact (min_eq_left (BitVec.slt_iff_toInt_lt.1 h).le).symm
  · next h => exact (min_eq_right (not_lt.1 fun hh => h (BitVec.slt_iff_toInt_lt.2 hh))).symm

/-- An index as a word. -/
def idxWord (j : Fin 1024) : BitVec 32 := BitVec.ofNat 32 j.val

theorem toInt_idxWord (j : Fin 1024) : (idxWord j).toInt = j.val := by
  unfold idxWord
  rw [BitVec.toInt_ofNat']
  have := j.isLt
  exact Int.bmod_eq_of_le (by omega) (by omega)

theorem idxWord_inj {j k : Fin 1024} (h : idxWord j = idxWord k) : j = k :=
  Fin.ext (by have := congrArg BitVec.toInt h; rw [toInt_idxWord, toInt_idxWord] at this; exact_mod_cast this)

/-! ## The distances -/

theorem dist_apply (r : FVec Ideal S1024x32 .f32) (a : Vec Ideal S1x32x1024 .f32) (b : Vec Ideal S1x1x1024 .f32) (C : Fin 1024 → Fin 32 → EReal)
    (ha : ∀ e j, a (ix3 0 e j) = C j e) (hb : ∀ j, b (ix3 0 0 j) = ∑ e, C j e * C j e) (i j : Fin 1024) :
    dist r a b (ix2 i j) = sqDist (fun e => r (ix2 i e)) C j := by
  pointwise [dist]
  simp only [ha, hb, sqDist]

section Row

variable (D : FVec Ideal S1024x1024 .f32) (i : Fin 1024)

/-- Row `i` of the distances. -/
def row : Fin 1024 → EReal := fun j => D (ix2 i j)

theorem atMin_apply (j : Fin 1024) : atMin D (ix2 i j) = if row D i j = row D i (near (row D i)) then 1#1 else 0#1 := by
  have h : Ideal.ofBits .f32 0x7F800000#32 = ⊤ := by simp [Ideal.ofBits, Ideal.ieee]
  have e : atMin D (ix2 i j) = BitVec.ofBool (decide (row D i j = row D i (near (row D i)))) := by
    rw [← fold_min_eq (row D i), ← h]
    pointwise [atMin, rowMin, row]
  rw [e]
  by_cases hd : row D i j = row D i (near (row D i)) <;> simp [hd]

/-- The least index at which the row is least. -/
theorem firstMin_apply : firstMin D (ix2 i 0) = idxWord (near (row D i)) := by
  have e : firstMin D (ix2 i 0) = Finset.univ.fold IntOp.minsi (2147483647#32) fun j : Fin 1024 => Scalar.select (atMin D (ix2 i j)) (idxWord j) 1024#32 := by
    pointwise [firstMin, idxWord]
  have hs : ∀ j : Fin 1024, (Scalar.select (atMin D (ix2 i j)) (idxWord j) 1024#32).toInt = if row D i j = row D i (near (row D i)) then (j.val : ℤ) else 1024 := fun j => by
    rw [atMin_apply]
    split
    · exact toInt_idxWord j
    · rfl
  refine BitVec.eq_of_toInt_eq ?_
  rw [e, toInt_fold_minsi, toInt_idxWord]
  simp only [hs]
  have hn := (near (row D i)).isLt
  refine le_antisymm (Finset.fold_min_le _ |>.2 (Or.inr ⟨near (row D i), Finset.mem_univ _, by rw [if_pos rfl]⟩)) (Finset.le_fold_min _ |>.2 ⟨?_, fun j _ => ?_⟩)
  · show ((near (row D i)).val : ℤ) ≤ 2147483647
    omega
  · split
    · next h => exact_mod_cast near_first (row D i) fun k => h ▸ near_le (row D i) k
    · omega

theorem atFirst_apply (j : Fin 1024) : atFirst D (ix2 i j) = if j = near (row D i) then 1#1 else 0#1 := by
  have e : atFirst D (ix2 i j) = IntOp.cmpi .eq (idxWord j) (firstMin D (ix2 i 0)) := by
    pointwise [atFirst, idxWord]
  rw [e, firstMin_apply]
  by_cases h : j = near (row D i)
  · rw [if_pos h, h]; simp [IntOp.cmpi]
  · rw [if_neg h]
    have hne : idxWord j ≠ idxWord (near (row D i)) := fun hh => h (idxWord_inj hh)
    have hb : (idxWord j == idxWord (near (row D i))) = false := beq_eq_false_iff_ne.2 hne
    show BitVec.ofBool (idxWord j == idxWord (near (row D i))) = 0#1
    rw [hb]; rfl

end Row

/-! ## Picking rows of the table -/

section Pick

variable (B : IVec S1024x1024 1) (t : Vec Ideal S1x1024x99 .bf16) (i : Fin 1024)

theorem pick_apply (l : Fin 99) : pick B t (ix2 i l) = ∑ j : Fin 1024, (if B (ix2 i j) = 1#1 then 1 else 0) * t (ix3 0 j l) := by
  have e : pick B t (ix2 i l) = ∑ j : Fin 1024, FloatOps.sitofp (F := Ideal) .f32 (BitVec.setWidth 32 (B (ix2 i j))) * t (ix3 0 j l) := by
    pointwise [pick, bits01]
  rw [e]
  refine Finset.sum_congr rfl fun j _ => ?_
  rcases one_or_zero (B (ix2 i j)) with h | h
  · rw [h, if_pos rfl]
    congr 1
    show (((BitVec.setWidth 32 1#1).toInt : ℝ) : EReal) = 1
    rw [show (BitVec.setWidth 32 1#1).toInt = 1 by decide]; simp
  · rw [h, if_neg (by decide)]
    congr 1
    show (((BitVec.setWidth 32 0#1).toInt : ℝ) : EReal) = 0
    rw [show (BitVec.setWidth 32 0#1).toInt = 0 by decide]; simp

/-- A row with one bit set picks that row of the table. -/
theorem pick_one (j : Fin 1024) (h : ∀ k, B (ix2 i k) = 1#1 ↔ k = j) (l : Fin 99) : pick B t (ix2 i l) = t (ix3 0 j l) := by
  rw [pick_apply, Finset.sum_eq_single j]
  · rw [if_pos ((h j).2 rfl), one_mul]
  · intro k _ hk; rw [if_neg fun hh => hk ((h k).1 hh), zero_mul]
  · exact fun hh => absurd (Finset.mem_univ _) hh

/-- Where the table's last column is ones, a count above one needs two bits, and no tie means no two bits in a row. -/
theorem one_bit (ht : ∀ j, t (ix3 0 j 98) = 1) (hT : ¬Tie (pick B t)) {j k : Fin 1024} (hj : B (ix2 i j) = 1#1) (hk : B (ix2 i k) = 1#1) : j = k := by
  by_contra hne
  apply hT
  have hm : maxCount (pick B t) = Finset.fold max (Ideal.ofBits .f32 0xFF800000#32) (fun x : Fin 1024 × Fin 1 => pick B t (ix2 x.1 98)) Finset.univ := by
    pointwise [maxCount]
  have h2 : (2 : EReal) ≤ pick B t (ix2 i 98) := by
    rw [pick_apply]
    simp only [ht, mul_one]
    have hle := Finset.sum_le_sum_of_subset_of_nonneg (s := {j, k}) (t := Finset.univ) (f := fun x : Fin 1024 => if B (ix2 i x) = 1#1 then (1 : EReal) else 0)
      (Finset.subset_univ _) fun x _ _ => by split <;> simp
    rw [Finset.sum_pair hne, if_pos hj, if_pos hk, one_add_one_eq_two] at hle
    exact hle
  have h3 : (1 : EReal) < maxCount (pick B t) := by
    rw [hm]
    refine lt_of_lt_of_le (lt_of_lt_of_le ?_ h2) (Finset.le_fold_max _ |>.2 (Or.inr ⟨(i, 0), Finset.mem_univ _, le_rfl⟩))
    exact_mod_cast one_lt_two (α := ℝ)
  have h1 : Scalar.cmpf (F := Ideal) (φ := .f32) .ogt (maxCount (pick B t)) (Scalar.ofBits .f32 0x3F800000#32) = 1#1 := by
    show BitVec.ofBool (decide (maxCount (pick B t) > Ideal.ofBits .f32 0x3F800000#32)) = 1#1
    rw [Ideal.ofBits_one_f32, decide_eq_true h3]; rfl
  unfold Tie
  rw [h1]; decide

end Pick

/-! ## One stage -/

/-- A block of the split table: the words' entries whole in the first summand, nothing in the two others, the index in two
    halves, and one. -/
structure Splits (t : Vec Ideal S1x1024x99 .bf16) (C : Fin 1024 → Fin 32 → EReal) : Prop where
  hi : ∀ j (e : Fin 32), t (ix3 0 j ⟨e.val, by omega⟩) = C j e
  mid : ∀ j (e : Fin 32), t (ix3 0 j ⟨32 + e.val, by omega⟩) = 0
  lo : ∀ j (e : Fin 32), t (ix3 0 j ⟨64 + e.val, by omega⟩) = 0
  khi : ∀ j : Fin 1024, t (ix3 0 j 96) = (((idxWord j &&& 4294967264#32).toInt : ℝ) : EReal)
  klo : ∀ j : Fin 1024, t (ix3 0 j 97) = (((idxWord j &&& 31#32).toInt : ℝ) : EReal)
  one : ∀ j, t (ix3 0 j 98) = 1

theorem halves : ∀ j : Fin 1024, (idxWord j &&& 4294967264#32).toInt + (idxWord j &&& 31#32).toInt = j.val := by
  decide +kernel

theorem fptosi_index (j : Fin 1024) : Ideal.fptosi 32 ((((idxWord j &&& 4294967264#32).toInt : ℝ) : EReal) + (((idxWord j &&& 31#32).toInt : ℝ) : EReal)) = idxWord j := by
  rw [← EReal.coe_add, ← Int.cast_add, halves]
  have hj := j.isLt
  unfold Ideal.fptosi
  rw [Ideal.toIntClamped_coe, if_pos (by positivity), Int.floor_intCast, min_eq_right (by norm_num; omega), max_eq_right (by omega)]
  rfl

section Stage

variable {t : Vec Ideal S1x1024x99 .bf16} {C : Fin 1024 → Fin 32 → EReal} (hS : Splits t C) (D : FVec Ideal S1024x1024 .f32) (i : Fin 1024)
include hS

theorem word_one (B : IVec S1024x1024 1) (j : Fin 1024) (h : ∀ k, B (ix2 i k) = 1#1 ↔ k = j) (e : Fin 32) : word (pick B t) (ix2 i e) = C j e := by
  have hw : word (pick B t) (ix2 i e) = pick B t (ix2 i ⟨e.val, by omega⟩) + pick B t (ix2 i ⟨32 + e.val, by omega⟩) + pick B t (ix2 i ⟨64 + e.val, by omega⟩) := by
    pointwise [word]
  rw [hw, pick_one B t i j h, pick_one B t i j h, pick_one B t i j h, hS.hi, hS.mid, hS.lo, add_zero, add_zero]

theorem atMin_one (hT : ¬Tie (pick (atMin D) t)) (k : Fin 1024) : atMin D (ix2 i k) = 1#1 ↔ k = near (row D i) := by
  have h0 : atMin D (ix2 i (near (row D i))) = 1#1 := by rw [atMin_apply, if_pos rfl]
  exact ⟨fun h => one_bit (atMin D) t i hS.one hT h h0, fun h => h ▸ h0⟩

theorem atFirst_one (k : Fin 1024) : atFirst D (ix2 i k) = 1#1 ↔ k = near (row D i) := by
  rw [atFirst_apply]; split <;> simp_all

/-- The stage's codeword is the nearest one. -/
theorem stageWord_apply (e : Fin 32) : stageWord D t (ix2 i e) = C (near (row D i)) e := by
  unfold stageWord
  split
  · next h => exact (show _ = word (pick (atFirst D) t) (ix2 i e) by pointwise).trans (word_one hS i _ _ (atFirst_one hS D i) e)
  · next h => exact (show _ = word (pick (atMin D) t) (ix2 i e) by pointwise).trans (word_one hS i _ _ (atMin_one hS D i h) e)

/-- The stage's index is the nearest one's. -/
theorem stageIndex_apply : stageIndex D t (ix2 i 0) = idxWord (near (row D i)) := by
  unfold stageIndex
  split
  · next h => exact (show _ = firstMin D (ix2 i 0) by pointwise).trans (firstMin_apply D i)
  · next h =>
    have hp : pickedIndex (pick (atMin D) t) (ix2 i 0) = Ideal.fptosi 32 (pick (atMin D) t (ix2 i 96) + pick (atMin D) t (ix2 i 97)) := by
      pointwise [pickedIndex]
      rfl
    refine (show _ = pickedIndex (pick (atMin D) t) (ix2 i 0) by pointwise).trans ?_
    rw [hp, pick_one _ t i _ (atMin_one hS D i h), pick_one _ t i _ (atMin_one hS D i h), hS.khi, hS.klo, fptosi_index]

end Stage

end Cert.KernelIdeal.Body

end
-- ==== Proof.KernelBlocks.lean ====
/- The kernel's three output blocks over the extended reals, read at an index: the stages of the shared mathematics, run on the
   rows of the block's input. -/
module

public import proofs.«01_k».proof.Proof.KernelMath

@[expose] public section

set_option maxRecDepth 16384

noncomputable section

namespace Cert.KernelIdeal.Body

open Idealize.ShloMosaic Cert.KernelIdeal.Gen Cert.Residual
open scoped BigOperators

/-- The codewords of stage `q`. -/
def words (x : Vec Ideal S8x1024x32 .f32) (q : ℕ) (j : Fin 1024) (e : Fin 32) : EReal := x (ix3 (Fin.ofNat 8 q) j e)

theorem cbAt_apply (x : Vec Ideal S8x1024x32 .f32) (q : ℕ) (j : Fin 1024) (e : Fin 32) : cbAt x q (ix3 0 j e) = words x q j e := by
  refine congrArg x (funext fun a => Fin.ext ?_)
  match a with
  | ⟨0, _⟩ => rfl
  | ⟨1, _⟩ => show 0 + 1 * j.val = j.val; omega
  | ⟨2, _⟩ => show 0 + 1 * e.val = e.val; omega

theorem cbtAt_apply (x : Vec Ideal S8x32x1024 .f32) (q : ℕ) (e : Fin 32) (j : Fin 1024) : cbtAt x q (ix3 0 e j) = x (ix3 (Fin.ofNat 8 q) e j) := by
  refine congrArg x (funext fun a => Fin.ext ?_)
  match a with
  | ⟨0, _⟩ => rfl
  | ⟨1, _⟩ => show 0 + 1 * e.val = e.val; omega
  | ⟨2, _⟩ => show 0 + 1 * j.val = j.val; omega

theorem cb2At_apply (x : Vec Ideal S8x1x1024 .f32) (q : ℕ) (j : Fin 1024) : cb2At x q (ix3 0 0 j) = x (ix3 (Fin.ofNat 8 q) 0 j) := by
  refine congrArg x (funext fun a => Fin.ext ?_)
  match a with
  | ⟨0, _⟩ => rfl
  | ⟨1, _⟩ => rfl
  | ⟨2, _⟩ => show 0 + 1 * j.val = j.val; omega

theorem tabAt_apply (x : Vec Ideal S8x1024x32 .f32) (q : ℕ) (j : Fin 1024) (l : Fin 99) : tabAt (splitTable x) q (ix3 0 j l) = splitBlock (cbAt x (q % 8)) (ix3 0 j l) := by
  have e : tabAt (splitTable x) q (ix3 0 j l) = splitTable x (ix3 (Fin.ofNat 8 q) j l) := by
    refine congrArg (splitTable x) (funext fun a => Fin.ext ?_)
    match a with
    | ⟨0, _⟩ => rfl
    | ⟨1, _⟩ => show 0 + 1 * j.val = j.val; omega
    | ⟨2, _⟩ => show 0 + 1 * l.val = l.val; omega
  exact e

section Split

variable (b : Vec Ideal S1x1024x32 .f32) (j : Fin 1024)

theorem split_hi (e : Fin 32) : splitBlock b (ix3 0 j ⟨e.val, by omega⟩) = b (ix3 0 j e) := by
  pointwise [splitBlock]

theorem split_mid (e : Fin 32) : splitBlock b (ix3 0 j ⟨32 + e.val, by omega⟩) = b (ix3 0 j e) - b (ix3 0 j e) := by
  pointwise [splitBlock]

theorem split_lo (e : Fin 32) : splitBlock b (ix3 0 j ⟨64 + e.val, by omega⟩) = b (ix3 0 j e) - b (ix3 0 j e) - (b (ix3 0 j e) - b (ix3 0 j e)) := by
  have he : (⟨64 + e.val - 32 - 32, by omega⟩ : Fin 32) = e := Fin.ext (show 64 + e.val - 32 - 32 = e.val by omega)
  pointwise [splitBlock]
  rw [dif_neg (by omega), dif_neg (by omega), dif_pos (by omega), he]

theorem split_khi : splitBlock b (ix3 0 j 96) = (((idxWord j &&& 4294967264#32).toInt : ℝ) : EReal) := by
  pointwise [splitBlock]
  rfl

theorem split_klo : splitBlock b (ix3 0 j 97) = (((idxWord j &&& 31#32).toInt : ℝ) : EReal) := by
  pointwise [splitBlock]
  rfl

theorem split_one : splitBlock b (ix3 0 j 98) = 1 := by
  pointwise [splitBlock]

end Split

/-- Each block of the split table splits that stage's codewords, when they are real. -/
theorem splits (x : Vec Ideal S8x1024x32 .f32) (hx : ∀ q j e, IsReal (words x q j e)) (q : ℕ) : Splits (tabAt (splitTable x) q) (words x q) := by
  have hq : words x (q % 8) = words x q := by
    funext j e; unfold words
    rw [show Fin.ofNat 8 (q % 8) = Fin.ofNat 8 q from Fin.ext (Nat.mod_mod q 8)]
  constructor
  · intro j e; rw [tabAt_apply, split_hi, cbAt_apply, hq]
  · intro j e; rw [tabAt_apply, split_mid, cbAt_apply, (hx _ _ _).sub_self]
  · intro j e; rw [tabAt_apply, split_lo, cbAt_apply, (hx _ _ _).sub_self, IsReal.zero.sub_self]
  · intro j; rw [tabAt_apply, split_khi]
  · intro j; rw [tabAt_apply, split_klo]
  · intro j; rw [tabAt_apply, split_one]

/-- The summed words times the output matrix, cut off below at zero. -/
theorem out_apply (S : FVec Ideal S1024x32 .f32) (x1 : FVec Ideal S32x756 .f32) (i : Fin 1024) (l : Fin 756) :
    maximumf (matmul dot_S1024x32_S32x756_S1024x756_1_0_0_1_n_n none S x1 (constant S1024x756 .f32 0x00000000#32))
      (broadcast S1024x756 (Scalar.ofBits .f32 0x00000000#32) : FVec Ideal S1024x756 .f32) (ix2 i l) = max (∑ e, S (ix2 i e) * x1 (ix2 e l)) 0 := by
  pointwise

section Chain

variable (x0 : Vec Ideal S1024x32 .f32) (x1 : Vec Ideal S32x756 .f32) (x2 : Vec Ideal S8x32x1024 .f32) (x : Vec Ideal S8x1024x32 .f32) (x4 : Vec Ideal S8x1x1024 .f32)
  (h2 : ∀ q e j, x2 (ix3 q e j) = x (ix3 q j e)) (h4 : ∀ q j, x4 (ix3 q 0 j) = ∑ e, x (ix3 q j e) * x (ix3 q j e))
  (hx : ∀ q j e, IsReal (words x q j e)) (i : Fin 1024)

/-- Row `i` of the block's input. -/
def inRow (x0 : Vec Ideal S1024x32 .f32) (i : Fin 1024) : Fin 32 → EReal := fun e => x0 (ix2 i e)

include h2 h4 in
theorem row_dist (R : FVec Ideal S1024x32 .f32) (q : ℕ) : row (dist R (cbtAt x2 q) (cb2At x4 q)) i = sqDist (fun e => R (ix2 i e)) (words x q) := by
  funext j
  refine dist_apply R _ _ (words x q) (fun e j => ?_) (fun j => ?_) i j
  · rw [cbtAt_apply, h2]; rfl
  · rw [cb2At_apply, h4]; rfl

include h2 h4 hx

/-- The residual before stage `q`. -/
theorem resAt_apply : ∀ (q : ℕ) (e : Fin 32), resAt x0 x2 x4 (splitTable x) q (ix2 i e) = left (inRow x0 i) (words x) q e
  | 0, e => by
    show shapeCast S1024x32 x0 shapeCasts_S1024x32_S1024x32 (ix2 i e) = x0 (ix2 i e)
    pointwise
  | q + 1, e => by
    have hr : (fun e => resAt x0 x2 x4 (splitTable x) q (ix2 i e)) = left (inRow x0 i) (words x) q := funext fun e => resAt_apply q e
    show resAt x0 x2 x4 (splitTable x) q (ix2 i e) - stageWord (dist (resAt x0 x2 x4 (splitTable x) q) (cbtAt x2 q) (cb2At x4 q)) (tabAt (splitTable x) q) (ix2 i e) = _
    rw [resAt_apply q e, stageWord_apply (splits x hx q), row_dist x2 x x4 h2 h4, hr]
    rfl

theorem wordAt_apply (q : ℕ) (e : Fin 32) : wordAt x0 x2 x4 (splitTable x) q (ix2 i e) = words x q (chosen (inRow x0 i) (words x) q) e := by
  have hr : (fun e => resAt x0 x2 x4 (splitTable x) q (ix2 i e)) = left (inRow x0 i) (words x) q := funext fun e => resAt_apply x0 x2 x x4 h2 h4 hx i q e
  unfold wordAt
  rw [stageWord_apply (splits x hx q), row_dist x2 x x4 h2 h4, hr]
  rfl

theorem indexAt_apply (q : ℕ) : indexAt x0 x2 x4 (splitTable x) q (ix2 i 0) = idxWord (chosen (inRow x0 i) (words x) q) := by
  have hr : (fun e => resAt x0 x2 x4 (splitTable x) q (ix2 i e)) = left (inRow x0 i) (words x) q := funext fun e => resAt_apply x0 x2 x x4 h2 h4 hx i q e
  unfold indexAt
  rw [stageIndex_apply (splits x hx q), row_dist x2 x x4 h2 h4, hr]
  rfl

theorem sumAt_apply : ∀ (q : ℕ) (e : Fin 32), sumAt x0 x2 x4 (splitTable x) q (ix2 i e) = taken (inRow x0 i) (words x) q e
  | 0, e => Ideal.ofBits_zero_f32
  | q + 1, e => by
    show sumAt x0 x2 x4 (splitTable x) q (ix2 i e) + wordAt x0 x2 x4 (splitTable x) q (ix2 i e) = _
    rw [sumAt_apply q e, wordAt_apply x0 x2 x x4 h2 h4 hx]
    rfl

/-- The first output's block. -/
theorem outBlock_apply (l : Fin 756) : outBlock x0 x1 x2 x4 (splitTable x) (ix2 i l) = max (∑ e, taken (inRow x0 i) (words x) 8 e * x1 (ix2 e l)) 0 := by
  refine (out_apply (sumAt x0 x2 x4 (splitTable x) 8) x1 i l).trans ?_
  simp only [sumAt_apply x0 x2 x x4 h2 h4 hx]

/-- The second's. -/
theorem allqBlock_apply (q : Fin 8) (e : Fin 32) : allqBlock x0 x2 x4 (splitTable x) (ix3 q i e) = words x q.val (chosen (inRow x0 i) (words x) q.val) e := by
  refine Eq.trans ?_ (wordAt_apply x0 x2 x x4 h2 h4 hx i q.val e)
  show shapeCast S1x1024x32 (wordAt x0 x2 x4 (splitTable x) q.val) shapeCasts_S1024x32_S1x1024x32 (ix3 0 i e) = _
  pointwise

/-- The third's. -/
theorem idxBlock_apply (q : Fin 8) : idxBlock x0 x2 x4 (splitTable x) (ix2 i q) = idxWord (chosen (inRow x0 i) (words x) q.val) := by
  refine Eq.trans ?_ (indexAt_apply x0 x2 x x4 h2 h4 hx i q.val)
  unfold idxBlock
  generalize indexAt x0 x2 x4 (splitTable x) = f
  fin_cases q <;> pointwise

end Chain

end Cert.KernelIdeal.Body

end
-- ==== Proof.KernelArrays.lean ====
/- What the kernel's launch finds in its input arrays, over the extended reals, and what each window's block holds of them. -/
module

public import proofs.«01_k».proof.Proof.KernelFrame
public import proofs.«01_k».proof.Proof.KernelBlocks
public import Idealize.ShloMosaic.Lib.Pipeline.ValueKit
public import Idealize.ShloMosaic.Lib.StableHlo.RunRead

@[expose] public section

set_option maxRecDepth 16384

noncomputable section

namespace Cert.KernelIdeal.Body

open Idealize.ShloMosaic Idealize.ShloMosaic.TcCoe Idealize.ShloMosaic.Tactic Cert.KernelIdeal.Gen Cert.Residual
open Idealize.ShloMosaic.Pipeline (Dat Cfg Window)
open scoped BigOperators

variable (m : (ℓ : Loc nD τ sig) → Buf (Elt Ideal) ℓ)

/-- The arguments. -/
abbrev argX (c : Dev nD) : FVec Ideal S8x2048x252x3 .f32 := m ((c : Thread nD τ).loc main_arg0)
abbrev argI (c : Dev nD) : FVec Ideal S756x32 .f32 := m ((c : Thread nD τ).loc main_arg1)
abbrev argO (c : Dev nD) : FVec Ideal S32x756 .f32 := m ((c : Thread nD τ).loc main_arg2)
abbrev argC (c : Dev nD) : FVec Ideal S8x1024x32 .f32 := m ((c : Thread nD τ).loc main_arg3)

/-- The projected input at a row. -/
def proj (X : FVec Ideal S8x2048x252x3 .f32) (Wi : FVec Ideal S756x32 .f32) (b : Fin 8) (n : Fin 2048) (e : Fin 32) : EReal :=
  ∑ x : Fin 756, X (ix4 b n ⟨x.val % 252, Nat.mod_lt _ (by decide)⟩ ⟨x.val / 252, by have := x.isLt; omega⟩) * Wi (ix2 x e)

/-- The projected input at a row of the flattened input. -/
def rowProj (X : FVec Ideal S8x2048x252x3 .f32) (Wi : FVec Ideal S756x32 .f32) (k : Fin 16384) : Fin 32 → EReal :=
  proj X Wi ⟨k.val / 2048, by have := k.isLt; omega⟩ ⟨k.val % 2048, Nat.mod_lt _ (by decide)⟩

theorem rows_apply (c : Dev nD) (i : Fin 16384) (e : Fin 32) : V m c main_v3 (ix2 i e)
    = rowProj (argX m c) (argI m c) i e := by
  show StableHlo.after hostOps0 (fun b => m (c, b)) (Proc.devRef .tc main_v3) (ix2 i e) = _
  after_reads_simp
  pointwise [rowProj, proj]

theorem turned_apply (c : Dev nD) (q : Fin 8) (e : Fin 32) (j : Fin 1024) : V m c main_v4 (ix3 q e j) = argC m c (ix3 q j e) := by
  show StableHlo.after hostOps0 (fun b => m (c, b)) (Proc.devRef .tc main_v4) (ix3 q e j) = _
  after_reads_simp
  pointwise

theorem squares_apply (c : Dev nD) (q : Fin 8) (j : Fin 1024) : V m c main_v7 (ix3 q 0 j) = ∑ e, argC m c (ix3 q j e) * argC m c (ix3 q j e) := by
  show StableHlo.after hostOps0 (fun b => m (c, b)) (Proc.devRef .tc main_v7) (ix3 q 0 j) = _
  after_reads_simp
  pointwise

/-- The windows' block indices. -/
theorem idx : ∀ t : Fin cfg0.N, win0_0.index t = ![t.val, 0] ∧ win0_1.index t = ![0, 0] ∧ win0_2.index t = ![0, 0, 0] ∧ win0_3.index t = ![0, 0, 0]
    ∧ win0_4.index t = ![0, 0, 0] ∧ win0_5.index t = ![t.val, 0] ∧ win0_6.index t = ![0, t.val, 0] ∧ win0_7.index t = ![t.val, 0] :=
  (by decide +kernel : ∀ t : Fin grid0.N, _)

theorem blk0_apply (c : Dev nD) (t : Fin cfg0.N) (i : Fin 1024) (e : Fin 32) (k : Fin 16384) (hk : k.val = t.val * 1024 + i.val) :
    blk0 m c t (ix2 i e) = V m c main_v3 (ix2 k e) := by
  blk_ext [iblk, idx t]

theorem blk1_apply (c : Dev nD) (t : Fin cfg0.N) (e : Fin 32) (l : Fin 756) : blk1 m c t (ix2 e l) = argO m c (ix2 e l) := by
  blk_ext [iblk, V_main_arg2, idx t]

theorem blk2_apply (c : Dev nD) (t : Fin cfg0.N) (q : Fin 8) (e : Fin 32) (j : Fin 1024) : blk2 m c t (ix3 q e j) = V m c main_v4 (ix3 q e j) := by
  blk_ext [iblk, idx t]

theorem blk3_apply (c : Dev nD) (t : Fin cfg0.N) (q : Fin 8) (j : Fin 1024) (e : Fin 32) : blk3 m c t (ix3 q j e) = argC m c (ix3 q j e) := by
  blk_ext [iblk, V_main_arg3, idx t]

theorem blk4_apply (c : Dev nD) (t : Fin cfg0.N) (q : Fin 8) (j : Fin 1024) : blk4 m c t (ix3 q 0 j) = V m c main_v7 (ix3 q 0 j) := by
  blk_ext [iblk, idx t]

end Cert.KernelIdeal.Body

end
-- ==== Proof.KernelValue.lean ====
/- What the kernel leaves in its three results, over the extended reals: the block formulas of the launch's points put
   together, and carried through the lines after the launch. -/
module

public import proofs.«01_k».proof.Proof.KernelArrays

@[expose] public section

set_option maxRecDepth 16384

noncomputable section

namespace Cert.KernelIdeal.Body

open Idealize.ShloMosaic Idealize.ShloMosaic.TcCoe Idealize.ShloMosaic.Tactic Cert.KernelIdeal.Gen Cert.Residual
open Idealize.ShloMosaic.Pipeline (Dat Cfg Window)
open scoped BigOperators

variable (m : (ℓ : Loc nD τ sig) → Buf (Elt Ideal) ℓ)

/-- The stage `q` index at row `k` of the flattened input. -/
def pickAt (X : FVec Ideal S8x2048x252x3 .f32) (Wi : FVec Ideal S756x32 .f32) (A : FVec Ideal S8x1024x32 .f32) (k : Fin 16384) (q : ℕ) : Fin 1024 :=
  chosen (rowProj X Wi k) (words A) q

/-- What the launch leaves in each of its three output arrays. -/
def outArr (X : FVec Ideal S8x2048x252x3 .f32) (Wi : FVec Ideal S756x32 .f32) (A : FVec Ideal S8x1024x32 .f32) (Wo : FVec Ideal S32x756 .f32) : FVec Ideal S16384x756 .f32 := fun j =>
  max (∑ e, taken (rowProj X Wi (j 0)) (words A) 8 e * Wo (ix2 e (j 1))) 0

def wordArr (X : FVec Ideal S8x2048x252x3 .f32) (Wi : FVec Ideal S756x32 .f32) (A : FVec Ideal S8x1024x32 .f32) : FVec Ideal S8x16384x32 .f32 := fun j =>
  words A (j 0).val (pickAt X Wi A (j 1) (j 0).val) (j 2)

def idxArr (X : FVec Ideal S8x2048x252x3 .f32) (Wi : FVec Ideal S756x32 .f32) (A : FVec Ideal S8x1024x32 .f32) : IVec S16384x8 32 := fun j =>
  idxWord (pickAt X Wi A (j 0) (j 1).val)

section

variable (c : Dev nD) (hA : ∀ i, IsReal (argC m c i))

theorem blk2_words (t : Fin cfg0.N) (q : Fin 8) (e : Fin 32) (j : Fin 1024) : blk2 m c t (ix3 q e j) = argC m c (ix3 q j e) :=
  (blk2_apply m c t q e j).trans (turned_apply m c q e j)

theorem blk4_squares (t : Fin cfg0.N) (q : Fin 8) (j : Fin 1024) : blk4 m c t (ix3 q 0 j) = ∑ e, argC m c (ix3 q j e) * argC m c (ix3 q j e) :=
  (blk4_apply m c t q j).trans (squares_apply m c q j)

theorem table_words : table m c = splitTable (F := Ideal) (argC m c) := by
  refine congrArg splitTable (funext fun i => ?_)
  rw [eq_ix3 i]
  exact blk3_apply m c t0_0 _ _ _

theorem inRow_proj (t : Fin cfg0.N) (i : Fin 1024) (k : Fin 16384) (hk : k.val = t.val * 1024 + i.val) :
    inRow (blk0 m c t) i = rowProj (argX m c) (argI m c) k :=
  funext fun e => (blk0_apply m c t i e k hk).trans (rows_apply m c k e)

include hA

theorem point_out (t : Fin cfg0.N) (i : Fin 1024) (l : Fin 756) (k : Fin 16384) (hk : k.val = t.val * 1024 + i.val) :
    outBlock (blk0 m c t) (blk1 m c t) (blk2 m c t) (blk4 m c t) (table m c) (ix2 i l) = outArr (argX m c) (argI m c) (argC m c) (argO m c) (ix2 k l) := by
  rw [table_words, outBlock_apply _ _ _ _ _ (blk2_words m c t) (blk4_squares m c t) (fun _ _ _ => hA _), inRow_proj m c t i k hk]
  simp only [blk1_apply]
  rfl

theorem point_words (t : Fin cfg0.N) (q : Fin 8) (i : Fin 1024) (e : Fin 32) (k : Fin 16384) (hk : k.val = t.val * 1024 + i.val) :
    allqBlock (blk0 m c t) (blk2 m c t) (blk4 m c t) (table m c) (ix3 q i e) = wordArr (argX m c) (argI m c) (argC m c) (ix3 q k e) := by
  rw [table_words, allqBlock_apply _ _ _ _ (blk2_words m c t) (blk4_squares m c t) (fun _ _ _ => hA _), inRow_proj m c t i k hk]
  rfl

theorem point_idx (t : Fin cfg0.N) (i : Fin 1024) (q : Fin 8) (k : Fin 16384) (hk : k.val = t.val * 1024 + i.val) :
    idxBlock (blk0 m c t) (blk2 m c t) (blk4 m c t) (table m c) (ix2 i q) = idxArr (argX m c) (argI m c) (argC m c) (ix2 k q) := by
  rw [table_words, idxBlock_apply _ _ _ _ (blk2_words m c t) (blk4_squares m c t) (fun _ _ _ => hA _), inRow_proj m c t i k hk]
  rfl

/-! ## The output arrays after the launch -/

omit hA in
theorem row_lt (t : Fin cfg0.N) (i : Fin 1024) : t.val * 1024 + i.val < 16384 := by
  have ht : t.val < 16 := Nat.lt_of_lt_of_eq t.isLt N_0
  have := i.isLt
  omega

theorem block_out (t : Fin cfg0.N) (y : S1024x756.Idx) : outBlock (blk0 m c t) (blk1 m c t) (blk2 m c t) (blk4 m c t) (table m c) y
    = outArr (argX m c) (argI m c) (argC m c) (argO m c) (((cfg0.win 5).blk t).view.emb y) := by
  have he : ((cfg0.win 5).blk t).view.emb y = (ix2 ⟨_, row_lt t (y 0)⟩ (y 1) : S16384x756.Idx) := by blk_ext [idx t]
  rw [he]
  refine Eq.trans ?_ (point_out m c hA t (y 0) (y 1) ⟨_, row_lt t (y 0)⟩ rfl)
  exact congrArg (outBlock (blk0 m c t) (blk1 m c t) (blk2 m c t) (blk4 m c t) (table m c)) (eq_ix2 y)

theorem final_out : (dats m 0 c).arrAt 5 cfg0.N = outArr (argX m c) (argI m c) (argC m c) (argO m c) := by
  refine (dats m 0 c).arrAt_eq_of_covers 5 _ (by decide +kernel) fun t _ y => ?_
  rw [after_5]
  exact (cast_eq _ _).trans (block_out m c hA t y)

theorem block_words (t : Fin cfg0.N) (y : S8x1024x32.Idx) : allqBlock (blk0 m c t) (blk2 m c t) (blk4 m c t) (table m c) y
    = wordArr (argX m c) (argI m c) (argC m c) (((cfg0.win 6).blk t).view.emb y) := by
  have he : ((cfg0.win 6).blk t).view.emb y = (ix3 (y 0) ⟨_, row_lt t (y 1)⟩ (y 2) : S8x16384x32.Idx) := by blk_ext [idx t]
  rw [he]
  refine Eq.trans ?_ (point_words m c hA t (y 0) (y 1) (y 2) ⟨_, row_lt t (y 1)⟩ rfl)
  exact congrArg (allqBlock (blk0 m c t) (blk2 m c t) (blk4 m c t) (table m c)) (eq_ix3 y)

theorem final_words : (dats m 0 c).arrAt 6 cfg0.N = wordArr (argX m c) (argI m c) (argC m c) := by
  refine (dats m 0 c).arrAt_eq_of_covers 6 _ (by decide +kernel) fun t _ y => ?_
  rw [after_6]
  exact (cast_eq _ _).trans (block_words m c hA t y)

theorem block_idx (t : Fin cfg0.N) (y : S1024x8.Idx) : idxBlock (blk0 m c t) (blk2 m c t) (blk4 m c t) (table m c) y
    = idxArr (argX m c) (argI m c) (argC m c) (((cfg0.win 7).blk t).view.emb y) := by
  have he : ((cfg0.win 7).blk t).view.emb y = (ix2 ⟨_, row_lt t (y 0)⟩ (y 1) : S16384x8.Idx) := by blk_ext [idx t]
  rw [he]
  refine Eq.trans ?_ (point_idx m c hA t (y 0) (y 1) ⟨_, row_lt t (y 0)⟩ rfl)
  exact congrArg (idxBlock (blk0 m c t) (blk2 m c t) (blk4 m c t) (table m c)) (eq_ix2 y)

theorem final_idx : (dats m 0 c).arrAt 7 cfg0.N = idxArr (argX m c) (argI m c) (argC m c) := by
  refine (dats m 0 c).arrAt_eq_of_covers 7 _ (by decide +kernel) fun t _ y => ?_
  rw [after_7]
  exact (cast_eq _ _).trans (block_idx m c hA t y)

end

end Cert.KernelIdeal.Body

end
-- ==== Proof.KernelRun.lean ====
/- The run of the whole program over the extended reals, with what its three results hold. -/
module

public import proofs.«01_k».proof.Proof.KernelValue

@[expose] public section

set_option maxRecDepth 16384

noncomputable section

namespace Cert.KernelIdeal.Body

open Idealize.ShloMosaic Idealize.ShloMosaic.TcCoe Idealize.ShloMosaic.Tactic Idealize.SL.Sem Cert.KernelIdeal.Gen Cert.Residual
open Idealize.ShloMosaic.Pipeline (Dat Cfg Window)
open scoped BigOperators

variable (m : (ℓ : Loc nD τ sig) → Buf (Elt Ideal) ℓ) (ρ : Dev nD → PrngReg)

/-- The results, in their last shape. -/
def outRes (X : FVec Ideal S8x2048x252x3 .f32) (Wi : FVec Ideal S756x32 .f32) (A : FVec Ideal S8x1024x32 .f32) (Wo : FVec Ideal S32x756 .f32) : FVec Ideal S8x2048x756 .f32 :=
  shapeCast S8x2048x756 (outArr X Wi A Wo) shapeCasts_S16384x756_S8x2048x756
def wordRes (X : FVec Ideal S8x2048x252x3 .f32) (Wi : FVec Ideal S756x32 .f32) (A : FVec Ideal S8x1024x32 .f32) : FVec Ideal S8x8x2048x32 .f32 :=
  shapeCast S8x8x2048x32 (wordArr X Wi A) shapeCasts_S8x16384x32_S8x8x2048x32
def idxRes (X : FVec Ideal S8x2048x252x3 .f32) (Wi : FVec Ideal S756x32 .f32) (A : FVec Ideal S8x1024x32 .f32) : IVec S8x2048x8 32 :=
  shapeCast S8x2048x8 (idxArr X Wi A) shapeCasts_S16384x8_S8x2048x8

/-- The row of the flattened input that row `n` of group `b` is. -/
def flat (b : Fin 8) (n : Fin 2048) : Fin 16384 := ⟨b.val * 2048 + n.val, by have := b.isLt; have := n.isLt; omega⟩

theorem rowProj_flat (X : FVec Ideal S8x2048x252x3 .f32) (Wi : FVec Ideal S756x32 .f32) (b : Fin 8) (n : Fin 2048) : rowProj X Wi (flat b n) = proj X Wi b n := by
  have hd : ∀ h, (⟨(flat b n).val / 2048, h⟩ : Fin 8) = b := fun h => Fin.ext (show (b.val * 2048 + n.val) / 2048 = b.val by have := n.isLt; omega)
  have hm : ∀ h, (⟨(flat b n).val % 2048, h⟩ : Fin 2048) = n := fun h => Fin.ext (show (b.val * 2048 + n.val) % 2048 = n.val by have := n.isLt; omega)
  unfold rowProj
  rw [hd, hm]

section

variable (X : FVec Ideal S8x2048x252x3 .f32) (Wi : FVec Ideal S756x32 .f32) (A : FVec Ideal S8x1024x32 .f32) (Wo : FVec Ideal S32x756 .f32)

theorem unflat_out (G : FVec Ideal S16384x756 .f32) (b : Fin 8) (n : Fin 2048) (l : Fin 756) :
    shapeCast S8x2048x756 G shapeCasts_S16384x756_S8x2048x756 (ix3 b n l) = G (ix2 (flat b n) l) := by
  pointwise
  blk_ext [flat]

theorem unflat_words (G : FVec Ideal S8x16384x32 .f32) (q b : Fin 8) (n : Fin 2048) (e : Fin 32) :
    shapeCast S8x8x2048x32 G shapeCasts_S8x16384x32_S8x8x2048x32 (ix4 q b n e) = G (ix3 q (flat b n) e) := by
  pointwise
  blk_ext [flat]

theorem unflat_idx (G : IVec S16384x8 32) (b : Fin 8) (n : Fin 2048) (q : Fin 8) :
    shapeCast S8x2048x8 G shapeCasts_S16384x8_S8x2048x8 (ix3 b n q) = G (ix2 (flat b n) q) := by
  pointwise
  blk_ext [flat]

theorem outRes_apply (b : Fin 8) (n : Fin 2048) (l : Fin 756) : outRes X Wi A Wo (ix3 b n l) = max (∑ e, taken (proj X Wi b n) (words A) 8 e * Wo (ix2 e l)) 0 := by
  refine (unflat_out _ b n l).trans ?_
  show max (∑ e, taken (rowProj X Wi (flat b n)) (words A) 8 e * Wo (ix2 e l)) 0 = _
  rw [rowProj_flat]

theorem wordRes_apply (q b : Fin 8) (n : Fin 2048) (e : Fin 32) : wordRes X Wi A (ix4 q b n e) = words A q.val (chosen (proj X Wi b n) (words A) q.val) e := by
  refine (unflat_words _ q b n e).trans ?_
  show words A q.val (chosen (rowProj X Wi (flat b n)) (words A) q.val) e = _
  rw [rowProj_flat]

theorem idxRes_apply (b : Fin 8) (n : Fin 2048) (q : Fin 8) : idxRes X Wi A (ix3 b n q) = idxWord (chosen (proj X Wi b n) (words A) q.val) := by
  refine (unflat_idx _ b n q).trans ?_
  show idxWord (chosen (rowProj X Wi (flat b n)) (words A) q.val) = _
  rw [rowProj_flat]

end

/-! ## The lines after the launch -/

theorem arrays_apply (c : Dev nD) (w : Fin cfg0.W) :
    Pipeline.withArrays (cfgs 0).spec c (V0 m c) (fun w => (dats m 0 c).arrAt w (cfgs 0).N) (Proc.devRef .tc (Pipeline.arrRef spec0 w)) = (dats m 0 c).arrAt w cfg0.N :=
  Pipeline.withArrays_arr spec0 (by decide) c (V0 m c) _ w

theorem tail_out (c : Dev nD) (hA : ∀ i, IsReal (argC m c i)) :
    Pipeline.afterTail₀ cfgs (dats m) 0 (V0 m) [hostOps1] c main_v9 = outRes (argX m c) (argI m c) (argC m c) (argO m c) := by
  have h := (arrays_apply m c 5).trans (final_out m c hA)
  unfold Pipeline.afterTail₀
  generalize Pipeline.withArrays (cfgs 0).spec c (V0 m c) (fun w => (dats m 0 c).arrAt w (cfgs 0).N) = U at h ⊢
  show StableHlo.after hostOps1 U (Proc.devRef .tc main_v9) = _
  after_reads_simp
  exact congrArg (fun G : FVec Ideal S16384x756 .f32 => shapeCast S8x2048x756 G shapeCasts_S16384x756_S8x2048x756) h

theorem tail_words (c : Dev nD) (hA : ∀ i, IsReal (argC m c i)) :
    Pipeline.afterTail₀ cfgs (dats m) 0 (V0 m) [hostOps1] c main_v10 = wordRes (argX m c) (argI m c) (argC m c) := by
  have h := (arrays_apply m c 6).trans (final_words m c hA)
  unfold Pipeline.afterTail₀
  generalize Pipeline.withArrays (cfgs 0).spec c (V0 m c) (fun w => (dats m 0 c).arrAt w (cfgs 0).N) = U at h ⊢
  show StableHlo.after hostOps1 U (Proc.devRef .tc main_v10) = _
  after_reads_simp
  exact congrArg (fun G : FVec Ideal S8x16384x32 .f32 => shapeCast S8x8x2048x32 G shapeCasts_S8x16384x32_S8x8x2048x32) h

theorem tail_idx (c : Dev nD) (hA : ∀ i, IsReal (argC m c i)) :
    Pipeline.afterTail₀ cfgs (dats m) 0 (V0 m) [hostOps1] c main_v11 = idxRes (argX m c) (argI m c) (argC m c) := by
  have h := (arrays_apply m c 7).trans (final_idx m c hA)
  unfold Pipeline.afterTail₀
  generalize Pipeline.withArrays (cfgs 0).spec c (V0 m c) (fun w => (dats m 0 c).arrAt w (cfgs 0).N) = U at h ⊢
  show StableHlo.after hostOps1 U (Proc.devRef .tc main_v11) = _
  after_reads_simp
  exact congrArg (fun G : IVec S16384x8 32 => shapeCast S8x2048x8 G shapeCasts_S16384x8_S8x2048x8) h

/-- Every execution on real codebooks ends with the three results at their formulas and the arguments as they were. -/
theorem run_values (hA : ∀ c i, IsReal (argC m c i)) : θ_run defs (onTc (τ := τ) (main (F := Ideal))) ⟨m, fun _ => 0, ρ⟩ (fun r => ∀ c : Dev nD,
      r.2.mem ((c.tc : Thread nD τ).loc main_v9) = outRes (argX m c) (argI m c) (argC m c) (argO m c)
      ∧ r.2.mem ((c.tc : Thread nD τ).loc main_v10) = wordRes (argX m c) (argI m c) (argC m c)
      ∧ r.2.mem ((c.tc : Thread nD τ).loc main_v11) = idxRes (argX m c) (argI m c) (argC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1.1 c).2 main_v9 (Pipeline.mem_restRefs_of main_v9 (by decide) (by decide))).trans (tail_out m c (hA c)),
      ((h.1.1 c).2 main_v10 (Pipeline.mem_restRefs_of main_v10 (by decide) (by decide))).trans (tail_words m c (hA c)),
      ((h.1.1 c).2 main_v11 (Pipeline.mem_restRefs_of main_v11 (by decide) (by decide))).trans (tail_idx m c (hA c)),
      h.2.1 c⟩)
    (θ_run_and (run_quiescent m ρ) (frame m ρ))

end Cert.KernelIdeal.Body

end
-- ==== Proof.ReferenceNearest.lean ====
/- What the reference's arg-min computes over the extended reals: the least index at which a row of distances is least. -/
module

public import proofs.«01_k».proof.Proof.ReferenceStage
public import proofs.«01_k».proof.Proof.Nearest

@[expose] public section

set_option maxRecDepth 16384

noncomputable section

namespace Cert.ReferenceIdeal.Line

open Idealize.ShloMosaic Cert.ReferenceIdeal.Gen Cert.Residual
open scoped BigOperators

/-! ## The arg-min -/

/-- `p` is no worse than `q`: less, or equal and at no greater an index. -/
def NoWorse (p q : EReal × BitVec 32) : Prop := p.1 < q.1 ∨ p.1 = q.1 ∧ p.2.toInt ≤ q.2.toInt

theorem NoWorse.refl (p : EReal × BitVec 32) : NoWorse p p := .inr ⟨rfl, le_rfl⟩

theorem NoWorse.trans {p q r : EReal × BitVec 32} (h : NoWorse p q) (h' : NoWorse q r) : NoWorse p r := by
  rcases h with h | ⟨h, k⟩ <;> rcases h' with h' | ⟨h', k'⟩
  · exact .inl (h.trans h')
  · exact .inl (h' ▸ h)
  · exact .inl (h ▸ h')
  · exact .inr ⟨h.trans h', k.trans k'⟩

/-- The reducer keeps one of its two pairs, and one no worse than either. -/
theorem reducer_keeps (a b : EReal × BitVec 32) :
    ∃ p, (reducer_argmin_f32_i32 : Ideal .f32 × BitVec 32 → Ideal .f32 × BitVec 32 → Ideal .f32 × BitVec 32) a b = p
      ∧ (p = a ∨ p = b) ∧ NoWorse p a ∧ NoWorse p b := by
  obtain ⟨a1, a2⟩ := a
  obtain ⟨b1, b2⟩ := b
  refine ⟨_, rfl, ?_⟩
  have e : (reducer_argmin_f32_i32 : Ideal .f32 × BitVec 32 → Ideal .f32 × BitVec 32 → Ideal .f32 × BitVec 32) (a1, a2) (b1, b2)
      = if a1 < b1 ∨ a1 = b1 ∧ a2.toInt < b2.toInt then (a1, a2) else (b1, b2) := by
    have hs : a2.slt b2 = decide (a2.toInt < b2.toInt) := rfl
    show (Scalar.select (IntOp.ori (BitVec.ofBool (decide (a1 < b1))) (BitVec.ofBool (decide (a1 ≠ a1)))) a1 b1,
      Scalar.select (IntOp.ori (IntOp.ori (BitVec.ofBool (decide (a1 < b1))) (BitVec.ofBool (decide (a1 ≠ a1)))) (IntOp.andi (BitVec.ofBool (decide (a1 = b1))) (BitVec.ofBool (a2.slt b2)))) a2 b2) = _
    rw [hs]
    by_cases h1 : a1 < b1
    · have h3 : a1 ≠ b1 := h1.ne
      by_cases h2 : a2.toInt < b2.toInt <;> simp [h1, h2, h3, Scalar.select, IntOp.ori, IntOp.andi]
    · by_cases h3 : a1 = b1
      · subst h3
        by_cases h2 : a2.toInt < b2.toInt <;> simp [h2, Scalar.select, IntOp.ori, IntOp.andi]
      · by_cases h2 : a2.toInt < b2.toInt <;> simp [h1, h2, h3, Scalar.select, IntOp.ori, IntOp.andi]
  rw [e]
  split
  · next h =>
    refine ⟨.inl rfl, .refl _, ?_⟩
    exact h.elim .inl fun h => .inr ⟨h.1, h.2.le⟩
  · next h =>
    refine ⟨.inr rfl, ?_, .refl _⟩
    rcases lt_trichotomy a1 b1 with h1 | h1 | h1
    · exact absurd (.inl h1) h
    · exact .inr ⟨h1.symm, not_lt.1 fun h2 => h (.inr ⟨h1, h2⟩)⟩
    · exact .inl h1

/-- Folded over a list, the reducer keeps one of the pairs, no worse than any. -/
theorem fold_keeps : ∀ (l : List (EReal × BitVec 32)) (a : EReal × BitVec 32),
    ∃ p, l.foldl (reducer_argmin_f32_i32 : Ideal .f32 × BitVec 32 → Ideal .f32 × BitVec 32 → Ideal .f32 × BitVec 32) a = p
      ∧ (p = a ∨ p ∈ l) ∧ NoWorse p a ∧ ∀ q ∈ l, NoWorse p q
  | [], a => ⟨a, rfl, .inl rfl, .refl a, fun q h => absurd h List.not_mem_nil⟩
  | b :: l, a => by
    obtain ⟨c, hc, hm, ha, hb⟩ := reducer_keeps a b
    obtain ⟨p, hp, hpm, hpc, hpl⟩ := fold_keeps l c
    refine ⟨p, ?_, ?_, hpc.trans ha, ?_⟩
    · rw [List.foldl_cons, hc, hp]
    · rcases hpm with h | h
      · rcases hm with h' | h'
        · exact .inl (h.trans h')
        · exact .inr (h.trans h' ▸ List.mem_cons_self)
      · exact .inr (List.mem_cons_of_mem _ h)
    · intro q hq
      rcases List.mem_cons.1 hq with h | h
      · exact h ▸ hpc.trans hb
      · exact hpl q h

/-- The arg-min over an axis: one of the pairs that drop to `j`, or the initial one, no worse than any. -/
theorem argmin_keeps {s t u : Shape} {axes : List (Fin s.rank)} (x : FVec Ideal s .f32) (y : s.Idx → BitVec 32) (ix : u.Idx → Ideal .f32)
    (iy : u.Idx → BitVec 32) (h : s.ReducesTo axes t) (hu : 0 < u.numel) (j : t.Idx) :
    ∃ p, Host.argReduce reducer_argmin_f32_i32 x y ix iy h hu j = p
      ∧ (p = (ix (Shape.Idx.first hu), iy (Shape.Idx.first hu)) ∨ ∃ i, h.drop i = j ∧ p = (x i, y i))
      ∧ NoWorse p (ix (Shape.Idx.first hu), iy (Shape.Idx.first hu)) ∧ ∀ i, h.drop i = j → NoWorse p (x i, y i) := by
  obtain ⟨p, hp, hm, hi, hl⟩ := fold_keeps (Host.argReduceFiber x y h j) (ix (Shape.Idx.first hu), iy (Shape.Idx.first hu))
  refine ⟨p, ?_, ?_, hi, fun i hij => hl _ ?_⟩
  · rw [Ideal.argReduce_eq_reduce2, Host.reduce2_eq_foldl_fiber, hp]
  · refine hm.imp id fun hm => ?_
    obtain ⟨n, hn, hnp⟩ := List.mem_map.1 hm
    exact ⟨_, of_decide_eq_true (List.mem_filter.1 hn).2, hnp.symm⟩
  · refine List.mem_map.2 ⟨s.rowMajor i, List.mem_filter.2 ⟨List.mem_finRange _, ?_⟩, ?_⟩
    · rw [Equiv.symm_apply_apply]; exact decide_eq_true hij
    · rw [Equiv.symm_apply_apply]

/-- An index as a word. -/
def idxWord (j : Fin 1024) : BitVec 32 := BitVec.ofNat 32 j.val

theorem toInt_idxWord (j : Fin 1024) : (idxWord j).toInt = j.val := by
  unfold idxWord
  rw [BitVec.toInt_ofNat']
  have := j.isLt
  exact Int.bmod_eq_of_le (by omega) (by omega)

theorem drop_last (b : Fin 8) (n : Fin 2048) (k : Fin 1024) : reducesTo_S8x2048x1024_S8x2048_d2.drop (ix3 b n k) = ix2 b n := by
  funext a
  match a with
  | ⟨0, _⟩ => rfl
  | ⟨1, _⟩ => rfl

theorem of_drop {i : S8x2048x1024.Idx} {b : Fin 8} {n : Fin 2048} (h : reducesTo_S8x2048x1024_S8x2048_d2.drop i = ix2 b n) : ∃ k, i = ix3 b n k := by
  refine ⟨i 2, funext fun a => Fin.ext ?_⟩
  match a with
  | ⟨0, _⟩ => exact congrArg Fin.val (congrFun h 0)
  | ⟨1, _⟩ => exact congrArg Fin.val (congrFun h 1)
  | ⟨2, _⟩ => rfl

/-- The arg-min along one row, over any shapes: where the pairs that drop to `j` are a row of 1024 values with their
    indices, the index it gives is the least at which the row is least. -/
theorem argmin_row {s t u : Shape} {axes : List (Fin s.rank)} (x : FVec Ideal s .f32) (y : s.Idx → BitVec 32) (ix : u.Idx → Ideal .f32)
    (iy : u.Idx → BitVec 32) (h : s.ReducesTo axes t) (hu : 0 < u.numel) (g : t.Idx → BitVec 32)
    (hg : g = fun j => (Host.argReduce reducer_argmin_f32_i32 x y ix iy h hu j).2) (j : t.Idx) (row : Fin 1024 → s.Idx) (hr : ∀ k, h.drop (row k) = j)
    (hs : ∀ i, h.drop i = j → ∃ k, i = row k) (hy : ∀ k, y (row k) = idxWord k) (hx : ∀ i, ix i = (⊤ : EReal)) (hz : ∀ i, iy i = 0#32) :
    g j = idxWord (near fun k => (x (row k) : EReal)) := by
  obtain ⟨p, hp, hm, hi, hl⟩ := argmin_keeps x y ix iy h hu j
  have hlk : ∀ k, NoWorse p (x (row k), idxWord k) := fun k => hy k ▸ hl _ (hr k)
  have hj : ∃ k : Fin 1024, p.2 = idxWord k ∧ (p.1 = x (row k) ∨ p.1 = ⊤ ∧ k.val = 0) := by
    rcases hm with h | ⟨i, hd, h⟩
    · exact ⟨0, by rw [h]; exact hz _, .inr ⟨by rw [h]; exact hx _, rfl⟩⟩
    · obtain ⟨k, rfl⟩ := hs _ hd
      exact ⟨k, by rw [h]; exact hy k, .inl (by rw [h])⟩
  obtain ⟨k, h2, h1⟩ := hj
  have hres : g j = p.2 := (congrFun hg j).trans (congrArg Prod.snd hp)
  rw [hres, h2]
  refine congrArg idxWord (near_eq _ fun l => ?_).symm
  rcases h1 with h1 | ⟨h1, hz⟩
  · refine (hlk l).imp (fun h => h1 ▸ h) fun h => ⟨h1 ▸ h.1, ?_⟩
    have := h.2
    rw [h2, toInt_idxWord, toInt_idxWord] at this
    exact_mod_cast this
  · have ht : ∀ l, (x (row l) : EReal) = ⊤ := fun l => (hlk l).elim (fun h => absurd (h1 ▸ h : ⊤ < (x (row l) : EReal)) not_top_lt) fun h => (h1 ▸ h.1).symm
    exact .inr ⟨(ht k).trans (ht l).symm, Fin.le_def.2 (by omega)⟩

theorem nearest_apply (D : FVec Ideal S8x2048x1024 .f32) (b : Fin 8) (n : Fin 2048) : nearest D (ix2 b n) = idxWord (near fun j => D (ix3 b n j)) :=
  argmin_row D (iotaInDim S8x2048x1024 32 2) (constant S_ .f32 0x7F800000#32) (constantI S_ 32 0#32) reducesTo_S8x2048x1024_S8x2048_d2 h_S_
    (nearest D) rfl (ix2 b n) (ix3 b n) (drop_last b n) (fun _ h => of_drop h) (fun _ => rfl)
    (fun _ => show Ideal.ofBits .f32 0x7F800000#32 = ⊤ by simp [Ideal.ofBits, Ideal.ieee]) (fun _ => rfl)

end Cert.ReferenceIdeal.Line

end
-- ==== Proof.ReferenceMath.lean ====
/- What one stage of the reference computes over the extended reals, the codeword nearest to a row; and its three results,
   read at an index. -/
module

public import proofs.«01_k».proof.Proof.ReferenceNearest

@[expose] public section

set_option maxRecDepth 16384

noncomputable section

namespace Cert.ReferenceIdeal.Line

open Idealize.ShloMosaic Cert.ReferenceIdeal.Gen Cert.Residual
open scoped BigOperators

/-! ## Looking a word up -/

theorem counted_apply (I : IVec S8x2048 32) (b : Fin 8) (n : Fin 2048) (j : Fin 1024) (h : I (ix2 b n) = idxWord j) (a : Fin 1) : counted I (ix3 b n a) = idxWord j := by
  have e : counted I (ix3 b n a) = Scalar.select (IntOp.cmpi .slt (I (ix2 b n)) 0#32) (IntOp.addi (I (ix2 b n)) 1024#32) (I (ix2 b n)) := by
    pointwise [counted]
  have hn : (idxWord j).slt 0#32 = false := decide_eq_false (not_lt.2 (by rw [toInt_idxWord]; exact Int.natCast_nonneg _))
  rw [e, h]
  show Scalar.select (BitVec.ofBool ((idxWord j).slt 0#32)) _ _ = _
  rw [hn]; rfl

theorem within_apply (J : IVec S8x2048x1 32) (b : Fin 8) (n : Fin 2048) (j : Fin 1024) (h : ∀ a, J (ix3 b n a) = idxWord j) : within J (ix2 b n) = 1#1 := by
  have e : within J (ix2 b n) = Finset.univ.fold IntOp.andi (1#1) fun a : Fin 1 =>
      IntOp.andi (IntOp.cmpi .sge (J (ix3 b n a)) 0#32) (IntOp.cmpi .sle (J (ix3 b n a)) 1023#32) := by
    pointwise [within]
  have h0 : IntOp.cmpi .sge (idxWord j) 0#32 = 1#1 := by
    show BitVec.ofBool (decide ((0#32).toInt ≤ (idxWord j).toInt)) = 1#1
    rw [toInt_idxWord, decide_eq_true (show (0#32).toInt ≤ (j.val : ℤ) from Int.natCast_nonneg _)]; rfl
  have h1 : IntOp.cmpi .sle (idxWord j) 1023#32 = 1#1 := by
    have := j.isLt
    show BitVec.ofBool (decide ((idxWord j).toInt ≤ (1023#32).toInt)) = 1#1
    rw [toInt_idxWord, decide_eq_true (show (j.val : ℤ) ≤ (1023#32).toInt from by show (j.val : ℤ) ≤ 1023; omega)]; rfl
  rw [e]
  simp only [h, h0, h1]
  rfl

theorem gather_apply (C : FVec Ideal S1024x32 .f32) (J : IVec S8x2048x1 32) (b : Fin 8) (n : Fin 2048) (j : Fin 1024) (h : ∀ a, J (ix3 b n a) = idxWord j) (e : Fin 32) :
    Host.gather gather_S1024x32_S8x2048x1_S8x2048x32_2_0_n_n_0_2_132 C J (ix3 b n e) = C (ix2 j e) := by
  unfold Host.gather
  refine congrArg C (funext fun a => Fin.ext ?_)
  generalize hd : gather_S1024x32_S8x2048x1_S8x2048x32_2_0_n_n_0_2_132 = d
  show d.start (ix3 b n e) J a + d.batchCoord (ix3 b n e) a + d.offCoord (ix3 b n e) a = _
  have hbN : ∀ a', a' ∉ d.operandBatchingDims := fun a' => by rw [← hd]; exact List.not_mem_nil
  match a with
  | ⟨0, _⟩ =>
    have hk : (0 : Fin 2) ∉ d.sKept := fun h => ((d.mem_sKept 0).1 h).1 (by rw [← hd]; exact List.mem_singleton.2 rfl)
    have hm : (0 : Fin 2) ∈ d.startIndexMap := by rw [← hd]; exact List.mem_singleton.2 rfl
    have hsl : d.sliceSizes 0 = 1 := by rw [← hd]; rfl
    show d.start (ix3 b n e) J 0 + d.batchCoord (ix3 b n e) 0 + d.offCoord (ix3 b n e) 0 = j.val
    rw [d.batchCoord_eq_zero _ _ (hbN 0), d.offCoord_eq_zero _ _ hk]
    simp only [Nat.add_zero]
    unfold GatherDims.start
    rw [dif_pos hm]
    have hsi : J (d.siIdx (ix3 b n e) ⟨d.startIndexMap.idxOf 0, List.idxOf_lt_length_iff.2 hm⟩) = idxWord j := by
      subst hd
      refine Eq.trans (congrArg J (funext fun a => ?_)) (h 0)
      match a with
      | ⟨0, _⟩ => rfl
      | ⟨1, _⟩ => rfl
      | ⟨2, _⟩ => rfl
    rw [hsi, hsl, toInt_idxWord]
    show min j.val 1023 = j.val
    have := j.isLt
    omega
  | ⟨1, _⟩ =>
    have hm : (1 : Fin 2) ∉ d.startIndexMap := by rw [← hd]; decide
    show d.start (ix3 b n e) J 1 + d.batchCoord (ix3 b n e) 1 + d.offCoord (ix3 b n e) 1 = e.val
    have hs : d.start (ix3 b n e) J 1 = 0 := by unfold GatherDims.start; rw [dif_neg hm]
    rw [d.batchCoord_eq_zero _ _ (hbN 1), hs]
    subst hd
    simp only [Nat.zero_add, Nat.add_zero]
    rfl

theorem rowsAt_apply (C : FVec Ideal S1024x32 .f32) (I : IVec S8x2048 32) (b : Fin 8) (n : Fin 2048) (j : Fin 1024) (h : I (ix2 b n) = idxWord j) (e : Fin 32) :
    rowsAt C I (ix3 b n e) = C (ix2 j e) := by
  have hr : rowsAt C I (ix3 b n e) = Scalar.select (within (counted I) (ix2 b n))
      (Host.gather gather_S1024x32_S8x2048x1_S8x2048x32_2_0_n_n_0_2_132 C (counted I) (ix3 b n e)) (Ideal.ofBits .f32 0x7FC00000#32) := by
    pointwise [rowsAt]
  rw [hr, within_apply _ b n j (counted_apply I b n j h), gather_apply C _ b n j (counted_apply I b n j h)]
  rfl

/-! ## One stage -/

theorem distances_apply (R : FVec Ideal S8x2048x32 .f32) (C : FVec Ideal S1024x32 .f32) (b : Fin 8) (n : Fin 2048) (j : Fin 1024) :
    distances R C (ix3 b n j) = sqDist (fun e => R (ix3 b n e)) (fun j e => C (ix2 j e)) j := by
  pointwise [distances, sqDist]

theorem codebook_apply (A : FVec Ideal S8x1024x32 .f32) (k : Fin 8) (j : Fin 1024) (e : Fin 32) : codebook A k (ix2 j e) = A (ix3 k j e) := by
  pointwise [codebook]

/-- The stage's index at a row. -/
theorem stage_index (R : FVec Ideal S8x2048x32 .f32) (C : FVec Ideal S1024x32 .f32) (b : Fin 8) (n : Fin 2048) :
    nearest (distances R C) (ix2 b n) = idxWord (near (sqDist (fun e => R (ix3 b n e)) (fun j e => C (ix2 j e)))) := by
  rw [nearest_apply]
  simp only [distances_apply]

/-- The stage's word at a row, of reals. -/
theorem stage_word (R : FVec Ideal S8x2048x32 .f32) (C : FVec Ideal S1024x32 .f32) (b : Fin 8) (n : Fin 2048) (hR : ∀ e, IsReal (R (ix3 b n e)))
    (hC : ∀ j e, IsReal (C (ix2 j e))) (e : Fin 32) :
    stageWord R C (ix3 b n e) = C (ix2 (near (sqDist (fun e => R (ix3 b n e)) (fun j e => C (ix2 j e)))) e) := by
  show R (ix3 b n e) + (rowsAt C (nearest (distances R C)) (ix3 b n e) - R (ix3 b n e)) = _
  rw [rowsAt_apply C _ b n _ (stage_index R C b n), (hR e).add_sub (hC _ _)]

/-! ## All stages -/

/-- Eight blocks of words, one after another. -/
def stackWords (f : Fin 8 → FVec Ideal S8x2048x32 .f32) : FVec Ideal S8x8x2048x32 .f32 :=
  let u (k : Fin 8) : FVec Ideal S1x8x2048x32 .f32 := broadcastInDim S1x8x2048x32 ![1, 2, 3] bcast_S8x2048x32_S1x8x2048x32_1_2_3 (f k)
  concatenate S8x8x2048x32 0
    [⟨S1x8x2048x32, u 0⟩, ⟨S1x8x2048x32, u 1⟩, ⟨S1x8x2048x32, u 2⟩, ⟨S1x8x2048x32, u 3⟩, ⟨S1x8x2048x32, u 4⟩, ⟨S1x8x2048x32, u 5⟩, ⟨S1x8x2048x32, u 6⟩, ⟨S1x8x2048x32, u 7⟩]
    concatenates_S1x8x2048x32_S1x8x2048x32_S1x8x2048x32_S1x8x2048x32_S1x8x2048x32_S1x8x2048x32_S1x8x2048x32_S1x8x2048x32_S8x8x2048x32_d0

theorem stackWords_apply (f : Fin 8 → FVec Ideal S8x2048x32 .f32) (q b : Fin 8) (n : Fin 2048) (e : Fin 32) : stackWords f (ix4 q b n e) = f q (ix3 b n e) := by
  fin_cases q <;> pointwise [stackWords]

/-- Eight columns of indices, side by side. -/
def stackIndices (f : Fin 8 → IVec S8x2048 32) : IVec S8x2048x8 32 :=
  let u (k : Fin 8) : IVec S8x2048x1 32 := broadcastInDim S8x2048x1 ![0, 1] bcast_S8x2048_S8x2048x1_0_1 (f k)
  concatenate S8x2048x8 2
    [⟨S8x2048x1, u 0⟩, ⟨S8x2048x1, u 1⟩, ⟨S8x2048x1, u 2⟩, ⟨S8x2048x1, u 3⟩, ⟨S8x2048x1, u 4⟩, ⟨S8x2048x1, u 5⟩, ⟨S8x2048x1, u 6⟩, ⟨S8x2048x1, u 7⟩]
    concatenates_S8x2048x1_S8x2048x1_S8x2048x1_S8x2048x1_S8x2048x1_S8x2048x1_S8x2048x1_S8x2048x1_S8x2048x8_d2

theorem stackIndices_apply (f : Fin 8 → IVec S8x2048 32) (q b : Fin 8) (n : Fin 2048) : stackIndices f (ix3 b n q) = f q (ix2 b n) := by
  fin_cases q <;> pointwise [stackIndices]

/-- The codewords of stage `q`. -/
def words (A : FVec Ideal S8x1024x32 .f32) (q : ℕ) (j : Fin 1024) (e : Fin 32) : EReal := A (ix3 (Fin.ofNat 8 q) j e)

section Chain

variable (X : FVec Ideal S8x2048x252x3 .f32) (Wi : FVec Ideal S756x32 .f32) (A : FVec Ideal S8x1024x32 .f32) (Wo : FVec Ideal S32x756 .f32)

/-- The projected input at a row: the sum over the re-arranged positions of the input times the input matrix. -/
def proj (b : Fin 8) (n : Fin 2048) (e : Fin 32) : EReal :=
  ∑ x : Fin 756, X (ix4 b n ⟨x.val % 252, Nat.mod_lt _ (by decide)⟩ ⟨x.val / 252, by have := x.isLt; omega⟩) * Wi (ix2 x e)

theorem projected_apply (b : Fin 8) (n : Fin 2048) (e : Fin 32) : projected X Wi (ix3 b n e) = proj X Wi b n e := by
  pointwise [projected, proj]

variable (hX : ∀ i, IsReal (X i)) (hWi : ∀ i, IsReal (Wi i)) (hA : ∀ i, IsReal (A i))

include hX hWi in
theorem proj_real (b : Fin 8) (n : Fin 2048) (e : Fin 32) : IsReal (proj X Wi b n e) := IsReal.sum _ fun x => (hX _).mul (hWi _)

theorem codebook_words (q : ℕ) : (fun j e => codebook A (Fin.ofNat 8 q) (ix2 j e)) = words A q := by
  funext j e; rw [codebook_apply]; rfl

include hX hWi hA

/-- The residual before stage `q`. -/
theorem residual_apply (b : Fin 8) (n : Fin 2048) : ∀ (q : ℕ) (e : Fin 32), residual X Wi A q (ix3 b n e) = left (proj X Wi b n) (words A) q e
  | 0, e => projected_apply X Wi b n e
  | q + 1, e => by
    have hr : (fun e => residual X Wi A q (ix3 b n e)) = left (proj X Wi b n) (words A) q := funext fun e => residual_apply b n q e
    show residual X Wi A q (ix3 b n e) - stageWord (residual X Wi A q) (codebook A (Fin.ofNat 8 q)) (ix3 b n e) = _
    rw [stage_word _ _ b n (fun e => by rw [residual_apply b n q e]; exact left_real _ _ (proj_real X Wi hX hWi b n) (fun _ _ _ => hA _) q e)
      (fun j e => by rw [codebook_apply]; exact hA _), residual_apply b n q e, codebook_words, hr, codebook_apply]
    rfl

theorem word_apply (b : Fin 8) (n : Fin 2048) (q : ℕ) (hq : q < 8) (e : Fin 32) : word X Wi A (Fin.ofNat 8 q) (ix3 b n e) = words A q (chosen (proj X Wi b n) (words A) q) e := by
  have hv : (Fin.ofNat 8 q).val = q := Nat.mod_eq_of_lt hq
  have hr : (fun e => residual X Wi A q (ix3 b n e)) = left (proj X Wi b n) (words A) q := funext fun e => residual_apply X Wi A hX hWi hA b n q e
  unfold word
  rw [hv, stage_word _ _ b n (fun e => by rw [residual_apply X Wi A hX hWi hA]; exact left_real _ _ (proj_real X Wi hX hWi b n) (fun _ _ _ => hA _) q e)
    (fun j e => by rw [codebook_apply]; exact hA _), codebook_words, hr, codebook_apply]
  rfl

theorem index_apply (b : Fin 8) (n : Fin 2048) (q : ℕ) (hq : q < 8) : index X Wi A (Fin.ofNat 8 q) (ix2 b n) = idxWord (chosen (proj X Wi b n) (words A) q) := by
  have hv : (Fin.ofNat 8 q).val = q := Nat.mod_eq_of_lt hq
  have hr : (fun e => residual X Wi A q (ix3 b n e)) = left (proj X Wi b n) (words A) q := funext fun e => residual_apply X Wi A hX hWi hA b n q e
  unfold index
  rw [hv, stage_index, codebook_words, hr]
  rfl

theorem wordSum_apply (b : Fin 8) (n : Fin 2048) : ∀ (q : ℕ) (hq : q ≤ 8) (e : Fin 32), wordSum X Wi A q (ix3 b n e) = taken (proj X Wi b n) (words A) q e
  | 0, _, e => Ideal.ofBits_zero_f32
  | q + 1, hq, e => by
    show wordSum X Wi A q (ix3 b n e) + word X Wi A (Fin.ofNat 8 q) (ix3 b n e) = _
    rw [wordSum_apply b n q (by omega) e, word_apply X Wi A hX hWi hA b n q (by omega)]
    rfl

omit hX hWi hA in
theorem out_apply (S : FVec Ideal S8x2048x32 .f32) (b : Fin 8) (n : Fin 2048) (l : Fin 756) :
    maximumf (Host.dotGeneral dot_S8x2048x32_S32x756_S8x2048x756_2_0_01_1_n_n none S Wo)
      (broadcastInDim S8x2048x756 ![] bcast_S_S8x2048x756 (constant S_ .f32 0x00000000#32) : FVec Ideal S8x2048x756 .f32) (ix3 b n l)
      = max (∑ e, S (ix3 b n e) * Wo (ix2 e l)) 0 := by
  pointwise

/-- The first result. -/
theorem refOut_apply (b : Fin 8) (n : Fin 2048) (l : Fin 756) : refOut X Wi A Wo (ix3 b n l) = max (∑ e, taken (proj X Wi b n) (words A) 8 e * Wo (ix2 e l)) 0 := by
  refine (out_apply Wo (wordSum X Wi A 8) b n l).trans ?_
  simp only [wordSum_apply X Wi A hX hWi hA b n 8 le_rfl]

/-- The second. -/
theorem refWords_apply (q b : Fin 8) (n : Fin 2048) (e : Fin 32) : refWords X Wi A (ix4 q b n e) = words A q.val (chosen (proj X Wi b n) (words A) q.val) e := by
  have hw := word_apply X Wi A hX hWi hA b n q.val q.isLt e
  rw [show Fin.ofNat 8 q.val = q from Fin.ext (Nat.mod_eq_of_lt q.isLt)] at hw
  exact (congrFun (show refWords X Wi A = stackWords (word X Wi A) from rfl) (ix4 q b n e)).trans ((stackWords_apply (word X Wi A) q b n e).trans hw)

/-- The third. -/
theorem refIndices_apply (q b : Fin 8) (n : Fin 2048) : refIndices X Wi A (ix3 b n q) = idxWord (chosen (proj X Wi b n) (words A) q.val) := by
  have hw := index_apply X Wi A hX hWi hA b n q.val q.isLt
  rw [show Fin.ofNat 8 q.val = q from Fin.ext (Nat.mod_eq_of_lt q.isLt)] at hw
  exact (congrFun (show refIndices X Wi A = stackIndices (index X Wi A) from rfl) (ix3 b n q)).trans ((stackIndices_apply (index X Wi A) q b n).trans hw)

end Chain

end Cert.ReferenceIdeal.Line

end
-- ==== Proof.Agree.lean ====
/- The kernel's results are the reference's, on a real input, a real input matrix and real codebooks. -/
module

public import proofs.«01_k».proof.Proof.KernelRun
public import proofs.«01_k».proof.Proof.ReferenceMath

@[expose] public section

set_option maxRecDepth 16384

noncomputable section

namespace Cert.Agree

open Idealize.ShloMosaic Cert.Residual Cert.KernelIdeal Cert.KernelIdeal.Body
open Cert.ReferenceIdeal.Line (refOut refWords refIndices refOut_apply refWords_apply refIndices_apply)

variable (X : FVec Ideal S8x2048x252x3 .f32) (Wi : FVec Ideal S756x32 .f32) (A : FVec Ideal S8x1024x32 .f32) (Wo : FVec Ideal S32x756 .f32)
  (hX : ∀ i, IsReal (X i)) (hWi : ∀ i, IsReal (Wi i)) (hA : ∀ i, IsReal (A i))
include hX hWi hA

theorem out : refOut X Wi A Wo = outRes X Wi A Wo := by
  funext j
  obtain ⟨b, n, l, rfl⟩ : ∃ (b : Fin 8) (n : Fin 2048) (l : Fin 756), j = ix3 b n l := ⟨j 0, j 1, j 2, eq_ix3 j⟩
  exact (refOut_apply X Wi A Wo hX hWi hA b n l).trans (outRes_apply X Wi A Wo b n l).symm

theorem words : refWords X Wi A = wordRes X Wi A := by
  funext j
  obtain ⟨q, b, n, e, rfl⟩ : ∃ (q b : Fin 8) (n : Fin 2048) (e : Fin 32), j = ix4 q b n e := ⟨j 0, j 1, j 2, j 3, eq_ix4 j⟩
  exact (refWords_apply X Wi A hX hWi hA q b n e).trans (wordRes_apply X Wi A q b n e).symm

theorem indices : refIndices X Wi A = idxRes X Wi A := by
  funext j
  obtain ⟨b, n, q, rfl⟩ : ∃ (b : Fin 8) (n : Fin 2048) (q : Fin 8), j = ix3 b n q := ⟨j 0, j 1, j 2, eq_ix3 j⟩
  exact (refIndices_apply X Wi A hX hWi hA q b n).trans (idxRes_apply X Wi A b n q).symm

end Cert.Agree

end
-- ==== Proof.Finite.lean ====
/- What the precondition says: every entry of the input, of the input matrix and of the codebooks is a real number. -/
module

public import proofs.«01_k».proof.Proof.Gen.Pre_finite
public import proofs.«01_k».proof.Proof.Nearest
public import Idealize.ShloMosaic.Lib.ReduceAll
public import Idealize.ShloMosaic.Lib.Affine

@[expose] public section

set_option maxRecDepth 16384

noncomputable section

namespace Cert.Pre_finite

open Idealize.ShloMosaic Cert.Residual

/-- An extended real whose absolute value is less than the top is real. -/
theorem real_of_abs_lt (x : EReal) (h : max x (-x) < ⊤) : IsReal x := by
  induction x using EReal.rec with
  | bot => exact absurd h (by simp)
  | top => exact absurd h (by simp)
  | coe r => exact ⟨r, rfl⟩

/-- An array whose absolute values are all less than the top, as the predicate tests it. -/
theorem reals_of_all {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant S_ .f32 0x7F800000#32 : FVec Ideal S_ .f32))) (constantI S_ 1 1#1) h hu j = 1#1)
    (i : s.Idx) : IsReal (x i) := by
  haveI : Subsingleton S_.Idx := ⟨fun _ _ => funext fun a => a.elim0⟩
  have h1 := Host.reduce_andi_all _ _ h hu j e i
  have h2 : BitVec.ofBool (decide (max (x i : EReal) (-(x i)) < Ideal.ofBits .f32 0x7F800000#32)) = 1#1 := h1
  have ht : Ideal.ofBits .f32 0x7F800000#32 = ⊤ := by simp [Ideal.ofBits, Ideal.ieee]
  rw [ht] at h2
  refine real_of_abs_lt _ ?_
  by_contra hn
  rw [decide_eq_false hn] at h2
  exact absurd h2 (by decide)

theorem reals (x0 : FVec Ideal S8x2048x252x3 .f32) (x1 : FVec Ideal S756x32 .f32) (x2 : FVec Ideal S32x756 .f32) (x3 : FVec Ideal S8x1024x32 .f32)
    (h : fn x0 x1 x2 x3 = fun _ => 1#1) : (∀ i, IsReal (x0 i)) ∧ (∀ i, IsReal (x1 i)) ∧ ∀ i, IsReal (x3 i) := by
  have h0 := congrFun h (fun a => a.elim0)
  obtain ⟨h01, h3⟩ := IntOp.andi_eq_one.1 h0
  obtain ⟨h0, h1⟩ := IntOp.andi_eq_one.1 h01
  exact ⟨reals_of_all x0 _ _ _ _ h0, reals_of_all x1 _ _ _ _ h1, reals_of_all x3 _ _ _ _ h3⟩

end Cert.Pre_finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.KernelFrame
public import proofs.«01_k».proof.Proof.Bits.KernelFrame
public import proofs.«01_k».proof.Proof.ReferenceStage
public import proofs.«01_k».proof.Proof.Agree
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The reference runs, its arguments and counters as they were. -/
theorem reference_frame : Cert.quiescent_ReferenceIdeal (hReferenceIdeal := Cert.ReferenceIdeal.Gen.facts) := fun m ρ _ =>
  (θ_run _ _ _).mono (fun _ h => ⟨fun c => (h.1 c).2.2.2, h.2⟩) (Cert.ReferenceIdeal.Line.run_values m ρ)

/-- On real inputs the kernel and the reference, started from the same arguments, end with the same three results. -/
theorem same_results : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have hr := fun c => Cert.Pre_finite.reals _ _ _ _ (hpre c)
  refine ⟨_, _, _, Cert.KernelIdeal.Body.run_values m g fun c => (hr c).2.2,
    (θ_run _ _ _).mono (fun _ h c => ?_) (Cert.ReferenceIdeal.Line.run_values m' g')⟩
  obtain ⟨h0, h1, h2, h3⟩ := hargs c
  obtain ⟨r0, r1, r3⟩ := hr c
  obtain ⟨e0, e1, e2, ha⟩ := h.1 c
  refine ⟨e0.trans ?_, e1.trans ?_, e2.trans ?_, ha⟩
  · rw [h0, h1, h2, h3]
    exact Cert.Agree.out _ _ _ _ r0 r1 r3
  · rw [h0, h1, h3]
    exact Cert.Agree.words _ _ _ r0 r1 r3
  · rw [h0, h1, h3]
    exact Cert.Agree.indices _ _ _ r0 r1 r3

theorem claim : Cert.Claim := ⟨Cert.Kernel.Gen.facts, Cert.KernelIdeal.Gen.facts, Cert.ReferenceIdeal.Gen.facts, Cert.Pre_finite.Gen.facts,
  fun m ρ _ => Cert.Kernel.Body.frame m ρ, fun m ρ _ => Cert.KernelIdeal.Body.frame m ρ, fun m ρ _ => Cert.KernelIdeal.Body.frame m ρ,
  reference_frame, fun m ρ _ => reference_frame m ρ trivial, trivial, same_results⟩

end Cert.Proof

end
